-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 2048, 1024]⟩ ⟨4, ![2, 2, 2048, 1024]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x2048x1024 : Shape := ⟨4, ![1, 1, 2048, 1024]⟩
abbrev S2048x1024 : Shape := ⟨2, ![2048, 1024]⟩
abbrev S512x1024 : Shape := ⟨2, ![512, 1024]⟩
abbrev S24 : Shape := ⟨1, ![24]⟩
abbrev S_ : Shape := ⟨0, ![]⟩
abbrev S1x1x128x1024 : Shape := ⟨4, ![1, 1, 128, 1024]⟩
abbrev S128x1024 : Shape := ⟨2, ![128, 1024]⟩
abbrev S1 : Shape := ⟨1, ![1]⟩
abbrev S1x1x512x1024 : Shape := ⟨4, ![1, 1, 512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S1x1x2048x1024, .bf16⟩
  | .hbm, ⟨1, _⟩ => ⟨S2048x1024, .bf16⟩
  | .local _ .vmem, ⟨0, _⟩ => ⟨S1x1x2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S1x1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v17 : BitVec 32 := Scalar.muli v6 c2_i32_11
  let v18 : BitVec 32 := Scalar.addi c0_i32 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v19 : BitVec 32 := Scalar.muli v5 c1_i32_12
  let v20 : BitVec 32 := Scalar.addi v18 v19
  v20.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v21 : BitVec 32 := Scalar.muli v2 c2_i32_14
  let v22 : BitVec 32 := Scalar.addi c0_i32_15 v21
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_16 : BitVec 32 := 1#32
  let v23 : BitVec 32 := Scalar.muli v7 c1_i32_16
  let v24 : BitVec 32 := Scalar.addi v22 v23
  v24.toNat
def k0_off1 (d0 : Dev nD) (c0_i32_18 : BitVec 32) : Fin 4 → Nat :=
  let c0 : Index := 0#32
  let c0_19 : Index := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v25 : BitVec 32 := Scalar.addi v10 c0_i32_18
  let v26 : Index := Scalar.indexCast v25
  let c0_20 : Index := 0#32
  ![0, 0, v26.toNat, 0]
def k0_off2 (d0 : Dev nD) (c0_i32_18 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v25 : BitVec 32 := Scalar.addi v10 c0_i32_18
  let v29 : Index := Scalar.indexCast v25
  let c0_21 : Index := 0#32
  ![v29.toNat, 0]
def k0_off3 (d0 : Dev nD) (c0_i32_18 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v25 : BitVec 32 := Scalar.addi v10 c0_i32_18
  let c0_i32_29 : BitVec 32 := 0#32
  ![v25.toNat, 0]
def k0_dev3 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v31 : BitVec 32 := Scalar.muli v6 c2_i32_24
  let v32 : BitVec 32 := Scalar.addi c0_i32_25 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v33 : BitVec 32 := Scalar.muli v5 c1_i32_26
  let v34 : BitVec 32 := Scalar.addi v32 v33
  v34.toNat
def k0_off4 (d0 : Dev nD) (c0_i32_30 : BitVec 32) : Fin 4 → Nat :=
  let c0_31 : Index := 0#32
  let c0_32 : Index := 0#32
  let c1024_i32_9 : BitVec 32 := 1024#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c512_i32_8 : BitVec 32 := 512#32
  let v14 : BitVec 32 := Scalar.muli v13 c512_i32_8
  let v15 : BitVec 32 := Scalar.addi c1024_i32_9 v14
  let v41 : BitVec 32 := Scalar.addi v15 c0_i32_30
  let v42 : Index := Scalar.indexCast v41
  let c0_33 : Index := 0#32
  ![0, 0, v42.toNat, 0]
def k0_off5 (d0 : Dev nD) (c0_i32_30 : BitVec 32) : Fin 2 → Nat :=
  let c1024_i32_9 : BitVec 32 := 1024#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c512_i32_8 : BitVec 32 := 512#32
  let v14 : BitVec 32 := Scalar.muli v13 c512_i32_8
  let v15 : BitVec 32 := Scalar.addi c1024_i32_9 v14
  let v41 : BitVec 32 := Scalar.addi v15 c0_i32_30
  let v45 : Index := Scalar.indexCast v41
  let c0_34 : Index := 0#32
  ![v45.toNat, 0]
def k0_off6 (d0 : Dev nD) (c0_i32_30 : BitVec 32) : Fin 2 → Nat :=
  let c1024_i32_9 : BitVec 32 := 1024#32
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c512_i32_8 : BitVec 32 := 512#32
  let v14 : BitVec 32 := Scalar.muli v13 c512_i32_8
  let v15 : BitVec 32 := Scalar.addi c1024_i32_9 v14
  let v41 : BitVec 32 := Scalar.addi v15 c0_i32_30
  let c0_i32_41 : BitVec 32 := 0#32
  ![v41.toNat, 0]
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v47 : BitVec 32 := Scalar.muli v2 c2_i32_36
  let v48 : BitVec 32 := Scalar.addi c0_i32_37 v47
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_38 : BitVec 32 := 1#32
  let v49 : BitVec 32 := Scalar.muli v7 c1_i32_38
  let v50 : BitVec 32 := Scalar.addi v48 v49
  v50.toNat
def k0_dev5 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v63 : BitVec 32 := Scalar.muli v6 c2_i32_48
  let v64 : BitVec 32 := Scalar.addi c0_i32_49 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v65 : BitVec 32 := Scalar.muli v5 c1_i32_50
  let v66 : BitVec 32 := Scalar.addi v64 v65
  v66.toNat
def k0_dev6 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v79 : BitVec 32 := Scalar.muli v2 c2_i32_60
  let v80 : BitVec 32 := Scalar.addi c0_i32_61 v79
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_62 : BitVec 32 := 1#32
  let v81 : BitVec 32 := Scalar.muli v7 c1_i32_62
  let v82 : BitVec 32 := Scalar.addi v80 v81
  v82.toNat
def k0_dev7 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v95 : BitVec 32 := Scalar.muli v6 c2_i32_72
  let v96 : BitVec 32 := Scalar.addi c0_i32_73 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v97 : BitVec 32 := Scalar.muli v5 c1_i32_74
  let v98 : BitVec 32 := Scalar.addi v96 v97
  v98.toNat
def k0_dev8 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v111 : BitVec 32 := Scalar.muli v2 c2_i32_84
  let v112 : BitVec 32 := Scalar.addi c0_i32_85 v111
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_86 : BitVec 32 := 1#32
  let v113 : BitVec 32 := Scalar.muli v7 c1_i32_86
  let v114 : BitVec 32 := Scalar.addi v112 v113
  v114.toNat
def k0_dev9 (d0 : Dev nD) : Nat :=
  let c0_i32_96 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_95 : BitVec 32 := 2#32
  let v127 : BitVec 32 := Scalar.muli v6 c2_i32_95
  let v128 : BitVec 32 := Scalar.addi c0_i32_96 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_97 : BitVec 32 := 1#32
  let v129 : BitVec 32 := Scalar.muli v5 c1_i32_97
  let v130 : BitVec 32 := Scalar.addi v128 v129
  v130.toNat
def k0_dev10 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v143 : BitVec 32 := Scalar.muli v2 c2_i32_107
  let v144 : BitVec 32 := Scalar.addi c0_i32_108 v143
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_109 : BitVec 32 := 1#32
  let v145 : BitVec 32 := Scalar.muli v7 c1_i32_109
  let v146 : BitVec 32 := Scalar.addi v144 v145
  v146.toNat
def k0_off7 (d0 : Dev nD) : Fin 4 → Nat :=
  let c0_113 : Index := 0#32
  let c0_114 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v153 : Index := Scalar.indexCast v8
  let c0_115 : Index := 0#32
  ![0, 0, v153.toNat, 0]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v156 : Index := Scalar.indexCast v8
  let c0_116 : Index := 0#32
  ![v156.toNat, 0]
def k0_off9 (d0 : Dev nD) : Fin 4 → Nat :=
  let c0_117 : Index := 0#32
  let c0_118 : Index := 0#32
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v158 : Index := Scalar.indexCast v12
  let c0_119 : Index := 0#32
  ![0, 0, v158.toNat, 0]
def k0_off10 (d0 : Dev nD) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v161 : Index := Scalar.indexCast v12
  let c0_120 : Index := 0#32
  ![v161.toNat, 0]
def k0_off11 (d0 : Dev nD) (c0_i32_129 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v171 : BitVec 32 := Scalar.addi v8 c0_i32_129
  let v172 : Index := Scalar.indexCast v171
  let c0_130 : Index := 0#32
  ![v172.toNat, 0]
def k0_off12 (d0 : Dev nD) (c0_i32_129 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v171 : BitVec 32 := Scalar.addi v8 c0_i32_129
  let c0_i32_140 : BitVec 32 := 0#32
  ![v171.toNat, 0]
def k0_dev11 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v179 : BitVec 32 := Scalar.muli v2 c2_i32_135
  let v180 : BitVec 32 := Scalar.addi c0_i32_136 v179
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_137 : BitVec 32 := 1#32
  let v181 : BitVec 32 := Scalar.muli v7 c1_i32_137
  let v182 : BitVec 32 := Scalar.addi v180 v181
  v182.toNat
def k0_off13 (d0 : Dev nD) (c0_i32_149 : BitVec 32) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v197 : BitVec 32 := Scalar.addi v12 c0_i32_149
  let v198 : Index := Scalar.indexCast v197
  let c0_150 : Index := 0#32
  ![v198.toNat, 0]
def k0_off14 (d0 : Dev nD) (c0_i32_149 : BitVec 32) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_6 : BitVec 32 := 512#32
  let v11 : BitVec 32 := Scalar.muli v5 c512_i32_6
  let v12 : BitVec 32 := Scalar.addi c1024_i32 v11
  let v197 : BitVec 32 := Scalar.addi v12 c0_i32_149
  let c0_i32_160 : BitVec 32 := 0#32
  ![v197.toNat, 0]
def k0_dev12 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v205 : BitVec 32 := Scalar.muli v6 c2_i32_155
  let v206 : BitVec 32 := Scalar.addi c0_i32_156 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v207 : BitVec 32 := Scalar.muli v5 c1_i32_157
  let v208 : BitVec 32 := Scalar.addi v206 v207
  v208.toNat
def k0_dev13 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v231 : BitVec 32 := Scalar.muli v2 c2_i32_174
  let v232 : BitVec 32 := Scalar.addi c0_i32_175 v231
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_176 : BitVec 32 := 1#32
  let v233 : BitVec 32 := Scalar.muli v7 c1_i32_176
  let v234 : BitVec 32 := Scalar.addi v232 v233
  v234.toNat
def k0_dev14 (d0 : Dev nD) : Nat :=
  let c0_i32_195 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_194 : BitVec 32 := 2#32
  let v257 : BitVec 32 := Scalar.muli v6 c2_i32_194
  let v258 : BitVec 32 := Scalar.addi c0_i32_195 v257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v259 : BitVec 32 := Scalar.muli v5 c1_i32_196
  let v260 : BitVec 32 := Scalar.addi v258 v259
  v260.toNat
def k0_dev15 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_213 : BitVec 32 := 2#32
  let v283 : BitVec 32 := Scalar.muli v2 c2_i32_213
  let v284 : BitVec 32 := Scalar.addi c0_i32_214 v283
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_215 : BitVec 32 := 1#32
  let v285 : BitVec 32 := Scalar.muli v7 c1_i32_215
  let v286 : BitVec 32 := Scalar.addi v284 v285
  v286.toNat
def k0_dev16 (d0 : Dev nD) : Nat :=
  let c0_i32_234 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_233 : BitVec 32 := 2#32
  let v309 : BitVec 32 := Scalar.muli v6 c2_i32_233
  let v310 : BitVec 32 := Scalar.addi c0_i32_234 v309
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v311 : BitVec 32 := Scalar.muli v5 c1_i32_235
  let v312 : BitVec 32 := Scalar.addi v310 v311
  v312.toNat
def k0_dev17 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v335 : BitVec 32 := Scalar.muli v2 c2_i32_252
  let v336 : BitVec 32 := Scalar.addi c0_i32_253 v335
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_254 : BitVec 32 := 1#32
  let v337 : BitVec 32 := Scalar.muli v7 c1_i32_254
  let v338 : BitVec 32 := Scalar.addi v336 v337
  v338.toNat
def k0_dev18 (d0 : Dev nD) : Nat :=
  let c0_i32_273 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_272 : BitVec 32 := 2#32
  let v361 : BitVec 32 := Scalar.muli v6 c2_i32_272
  let v362 : BitVec 32 := Scalar.addi c0_i32_273 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v363 : BitVec 32 := Scalar.muli v5 c1_i32_274
  let v364 : BitVec 32 := Scalar.addi v362 v363
  v364.toNat
def k0_dev19 (d0 : Dev nD) : Nat :=
  let c0_i32_299 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_298 : BitVec 32 := 2#32
  let v391 : BitVec 32 := Scalar.muli v6 c2_i32_298
  let v392 : BitVec 32 := Scalar.addi c0_i32_299 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_300 : BitVec 32 := 1#32
  let v393 : BitVec 32 := Scalar.muli v5 c1_i32_300
  let v394 : BitVec 32 := Scalar.addi v392 v393
  v394.toNat
def k0_dev20 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v421 : BitVec 32 := Scalar.muli v2 c2_i32_323
  let v422 : BitVec 32 := Scalar.addi c0_i32_324 v421
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_325 : BitVec 32 := 1#32
  let v423 : BitVec 32 := Scalar.muli v7 c1_i32_325
  let v424 : BitVec 32 := Scalar.addi v422 v423
  v424.toNat
def k0_dev21 (d0 : Dev nD) : Nat :=
  let c0_i32_349 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_348 : BitVec 32 := 2#32
  let v451 : BitVec 32 := Scalar.muli v6 c2_i32_348
  let v452 : BitVec 32 := Scalar.addi c0_i32_349 v451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_350 : BitVec 32 := 1#32
  let v453 : BitVec 32 := Scalar.muli v5 c1_i32_350
  let v454 : BitVec 32 := Scalar.addi v452 v453
  v454.toNat
def k0_dev22 (d0 : Dev nD) : Nat :=
  let c0_i32_374 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_373 : BitVec 32 := 2#32
  let v481 : BitVec 32 := Scalar.muli v2 c2_i32_373
  let v482 : BitVec 32 := Scalar.addi c0_i32_374 v481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_375 : BitVec 32 := 1#32
  let v483 : BitVec 32 := Scalar.muli v7 c1_i32_375
  let v484 : BitVec 32 := Scalar.addi v482 v483
  v484.toNat
def k0_dev23 (d0 : Dev nD) : Nat :=
  let c0_i32_399 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_398 : BitVec 32 := 2#32
  let v511 : BitVec 32 := Scalar.muli v6 c2_i32_398
  let v512 : BitVec 32 := Scalar.addi c0_i32_399 v511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_400 : BitVec 32 := 1#32
  let v513 : BitVec 32 := Scalar.muli v5 c1_i32_400
  let v514 : BitVec 32 := Scalar.addi v512 v513
  v514.toNat
def k0_dev24 (d0 : Dev nD) : Nat :=
  let c0_i32_424 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_423 : BitVec 32 := 2#32
  let v541 : BitVec 32 := Scalar.muli v2 c2_i32_423
  let v542 : BitVec 32 := Scalar.addi c0_i32_424 v541
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_425 : BitVec 32 := 1#32
  let v543 : BitVec 32 := Scalar.muli v7 c1_i32_425
  let v544 : BitVec 32 := Scalar.addi v542 v543
  v544.toNat
def k0_dev25 (d0 : Dev nD) : Nat :=
  let c0_i32_449 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_448 : BitVec 32 := 2#32
  let v571 : BitVec 32 := Scalar.muli v6 c2_i32_448
  let v572 : BitVec 32 := Scalar.addi c0_i32_449 v571
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_450 : BitVec 32 := 1#32
  let v573 : BitVec 32 := Scalar.muli v5 c1_i32_450
  let v574 : BitVec 32 := Scalar.addi v572 v573
  v574.toNat
def k0_dev26 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v601 : BitVec 32 := Scalar.muli v2 c2_i32_473
  let v602 : BitVec 32 := Scalar.addi c0_i32_474 v601
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_475 : BitVec 32 := 1#32
  let v603 : BitVec 32 := Scalar.muli v7 c1_i32_475
  let v604 : BitVec 32 := Scalar.addi v602 v603
  v604.toNat
abbrev stage0_0 : Fin 1 → Memref sig .tc .vmem S1x1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2048x1024 : Shape := ⟨4, ![2, 2, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2x2048x1024, .bf16⟩
  | .hbm, ⟨1, _⟩ => ⟨S2x2x2048x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S2x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body.lean ====
/-
# The kernel's body in blocks

The printed body is a straight line of memory operations. This module says the same line again as blocks — one
definition per kind of step, over a stream (`false`: the upper 1024 rows, `true`: the lower ones) and a chunk
of 128 rows — and proves the printed body equal to it (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.Sem

variable {F : FTy → Type} [FloatOps F]

/-- A program of the kernel's body. -/
abbrev BodyP (F : FTy → Type) : Type → Type 1 := Prog (TpuEff nD τ sig (Elt F) Λ₀ .tc)

/-! ## The buffers and semaphores -/

/-- The staged input and the staged result; -/
abbrev xM : Memref sig .tc .vmem S1x1x2048x1024 .bf16 := Memref.whole cc0_stg0_0
abbrev oM : Memref sig .tc .vmem S2048x1024 .bf16 := Memref.whole cc0_stg1_0
/-- a stream's landing buffer of the first exchange, and of the second. -/
abbrev aRef : Bool → Ref sig .tc
  | false => cc0_scratch0
  | true => cc0_scratch1
abbrev bRef : Bool → Ref sig .tc
  | false => cc0_scratch2
  | true => cc0_scratch3
abbrev aM : Bool → Memref sig .tc .vmem S512x1024 .bf16
  | false => Memref.whole cc0_scratch0
  | true => Memref.whole cc0_scratch1
abbrev bM : Bool → Memref sig .tc .vmem S512x1024 .bf16
  | false => Memref.whole cc0_scratch2
  | true => Memref.whole cc0_scratch3

theorem aM_whole : ∀ s, (aM s).IsWhole
  | false => Memref.isWhole_whole _
  | true => Memref.isWhole_whole _
theorem bM_whole : ∀ s, (bM s).IsWhole
  | false => Memref.isWhole_whole _
  | true => Memref.isWhole_whole _

/-- A transfer's place in the two semaphore arrays: its phase, its stream, its chunk. -/
abbrev Key : Type := Fin 3 × Bool × Fin 4

/-- The number of a key: eight to a phase, four to a stream. -/
def Key.ix (q : Key) : Fin 24 := ⟨8 * q.1.val + (4 * (bif q.2.1 then 1 else 0) + q.2.2.val), by
  obtain ⟨p, s, k⟩ := q; cases s <;> simp only [cond_true, cond_false] <;> omega⟩

/-- The send and the receive semaphore of a key. -/
def sSem (q : Key) : DmaSem sig := ⟨2 + (Key.ix q).val, by show _ < 50; have := (Key.ix q).isLt; omega⟩
def rSem (q : Key) : DmaSem sig := ⟨26 + (Key.ix q).val, by show _ < 50; have := (Key.ix q).isLt; omega⟩

/-- The first row of a chunk in a landing buffer, as the printed slices write it. -/
theorem chunk_inb (k : Fin 4) : ∀ a, (![128 * k.val, 0] : Fin 2 → Nat) a + S128x1024.size a ≤ S512x1024.size a := by
  revert k; decide
theorem chunk_words (k : Fin 4) : (Rect.unit (s := S512x1024) ![128 * k.val, 0] S128x1024.size (chunk_inb k)).WholeWords (EltTy.packing .bf16) := by
  fin_cases k
  · exact wordsbf16_S512x1024_S128x1024_0_0
  · exact wordsbf16_S512x1024_S128x1024_128_0
  · exact wordsbf16_S512x1024_S128x1024_256_0
  · exact wordsbf16_S512x1024_S128x1024_384_0

/-- A chunk of a landing buffer. -/
abbrev aC (s : Bool) (k : Fin 4) : Memref sig .tc .vmem S128x1024 .bf16 :=
  (aM s).slice (Rect.unit (s := S512x1024) ![128 * k.val, 0] S128x1024.size (chunk_inb k)) (fun _ => rfl)
abbrev bC (s : Bool) (k : Fin 4) : Memref sig .tc .vmem S128x1024 .bf16 :=
  (bM s).slice (Rect.unit (s := S512x1024) ![128 * k.val, 0] S128x1024.size (chunk_inb k)) (fun _ => rfl)
theorem aC_words (s : Bool) (k : Fin 4) : (aC s k).view.WordExact := (aM_whole s).wordExact_slice rfl _ (chunk_words k)
theorem bC_words (s : Bool) (k : Fin 4) : (bC s k).view.WordExact := (bM_whole s).wordExact_slice rfl _ (chunk_words k)

/-- 128 rows of the result from an offset. -/
abbrev oC (o : Fin 2 → Nat) (h : ∀ a, o a + S128x1024.size a ≤ S2048x1024.size a) : Memref sig .tc .vmem S128x1024 .bf16 :=
  (oM : Memref sig .tc .vmem S2048x1024 .bf16).slice (Rect.unit (s := S2048x1024) o S128x1024.size h) (fun _ => rfl)

/-! ## The steps, over their offsets -/

section Steps

/-- Rows of the input copied into the result (and the result's rows there read first, unused). -/
def copyRows (ox : Fin 4 → Nat) (hx : ∀ a, ox a + S1x1x128x1024.size a ≤ S1x1x2048x1024.size a)
    (o : Fin 2 → Nat) (h : ∀ a, o a + S128x1024.size a ≤ S2048x1024.size a)
    (hp : (Rect.unit (s := S2048x1024) o S128x1024.size h).PackedRows (EltTy.packing .bf16)) : BodyP F PUnit := do
  let v : Vec F S1x1x128x1024 .bf16 ← Prog.lift (.load xM (Rect.unit (s := S1x1x2048x1024) ox S1x1x128x1024.size hx).toLoadRect (View.loadsAt_vmem h_S1x1x128x1024))
  let _ : Vec F S128x1024 .bf16 ← Prog.lift (.load oM (Rect.unit (s := S2048x1024) o S128x1024.size h).toLoadRect (View.loadsAt_vmem h_S128x1024))
  Prog.lift (.store oM (Rect.unit (s := S2048x1024) o S128x1024.size h) (shapeCast S128x1024 v shapeCasts_S1x1x128x1024_S128x1024) Finset.univ
    (View.stores_vmem h_S128x1024 ((Memref.isWhole_whole _).storeExact_slice rfl _ hp) (fun _ => rfl)) (.inl rfl))

/-- 512 rows of the input copied into the result. -/
def copyQuarter (ox : Fin 4 → Nat) (hx : ∀ a, ox a + S1x1x512x1024.size a ≤ S1x1x2048x1024.size a)
    (o : Fin 2 → Nat) (h : ∀ a, o a + S512x1024.size a ≤ S2048x1024.size a)
    (hp : (Rect.unit (s := S2048x1024) o S512x1024.size h).PackedRows (EltTy.packing .bf16)) : BodyP F PUnit := do
  let v : Vec F S1x1x512x1024 .bf16 ← Prog.lift (.load xM (Rect.unit (s := S1x1x2048x1024) ox S1x1x512x1024.size hx).toLoadRect (View.loadsAt_vmem h_S1x1x512x1024))
  let _ : Vec F S512x1024 .bf16 ← Prog.lift (.load oM (Rect.unit (s := S2048x1024) o S512x1024.size h).toLoadRect (View.loadsAt_vmem h_S512x1024))
  Prog.lift (.store oM (Rect.unit (s := S2048x1024) o S512x1024.size h) (shapeCast S512x1024 v shapeCasts_S1x1x512x1024_S512x1024) Finset.univ
    (View.stores_vmem h_S512x1024 ((Memref.isWhole_whole _).storeExact_slice rfl _ hp) (fun _ => rfl)) (.inl rfl))

/-- Rows of the result replaced by their sum with a chunk of a landing buffer. -/
def addRows (o : Fin 2 → Nat) (h : ∀ a, o a + S128x1024.size a ≤ S2048x1024.size a)
    (hp : (Rect.unit (s := S2048x1024) o S128x1024.size h).PackedRows (EltTy.packing .bf16))
    (l : Memref sig .tc .vmem S512x1024 .bf16) (k : Fin 4) : BodyP F PUnit := do
  let v : Vec F S128x1024 .bf16 ← Prog.lift (.load oM (Rect.unit (s := S2048x1024) o S128x1024.size h).toLoadRect (View.loadsAt_vmem h_S128x1024))
  let w : Vec F S128x1024 .bf16 ← Prog.lift (.load l (Rect.unit (s := S512x1024) ![128 * k.val, 0] S128x1024.size (chunk_inb k)).toLoadRect (View.loadsAt_vmem h_S128x1024))
  let _ : Vec F S128x1024 .bf16 ← Prog.lift (.load oM (Rect.unit (s := S2048x1024) o S128x1024.size h).toLoadRect (View.loadsAt_vmem h_S128x1024))
  Prog.lift (.store oM (Rect.unit (s := S2048x1024) o S128x1024.size h) (addf (shapeCast S128x1024 v shapeCasts_S128x1024_S128x1024) w) Finset.univ
    (View.stores_vmem h_S128x1024 ((Memref.isWhole_whole _).storeExact_slice rfl _ hp) (fun _ => rfl)) (.inl rfl))

/-- Rows of the result sent to a device's memref, on the two semaphores of a key. -/
def sendRows (o : Fin 2 → Nat) (h : ∀ a, o a + S128x1024.size a ≤ S2048x1024.size a)
    (hw : (Rect.unit (s := S2048x1024) o S128x1024.size h).WholeWords (EltTy.packing .bf16))
    (dev : Dev nD) (v : Memref sig .tc .vmem S128x1024 .bf16) (hv : v.view.WordExact)
    (hsc : v.view.ref.isScScratch = false) (q : Key) : BodyP F PUnit :=
  Prog.lift (.enqueueDma (oC o h) (.remote (Dev.tc dev) v (.dma (sSem q)) hsc) (.dma (rSem q))
    ((Memref.isWhole_whole _).wordExact_slice rfl _ hw) hv ⟨⟨rfl, Or.inl rfl⟩, trivial⟩)

/-- A wait on a DMA semaphore for 128 rows of a buffer. -/
def waitRows (q : DmaSem sig) (b : Ref sig .tc) : BodyP F PUnit :=
  Prog.lift (.waitDma q b S128x1024 .bf16 (.inl rfl))

/-- Programs run one after the other. -/
def seqs : List (BodyP F PUnit) → BodyP F PUnit
  | [] => pure ⟨⟩
  | p :: l => p >>= fun _ => seqs l

end Steps

/-! ## The steps of a stream's chunk -/

/-- A chunk's first row in its quarter, as the printed offsets' word. -/
abbrev kw (k : Fin 4) : BitVec 32 := BitVec.ofNat 32 (128 * k.val)

/-- The device across the first mesh axis, and the device across the second. -/
def peerX (c : Dev nD) : Dev nD := ⟨k0_dev1 c, k0_dev1_lt c⟩
def peerY (c : Dev nD) : Dev nD := ⟨k0_dev2 c, k0_dev2_lt c⟩

/-- First exchange: the chunk of the quarter that the peer reduces is copied in and sent to the peer. -/
def blk1 (c : Dev nD) (s : Bool) (k : Fin 4) : BodyP F PUnit :=
  match s with
  | false => copyRows (k0_off1 c (kw k)) (k0_off1_inb c k) (k0_off2 c (kw k)) (k0_off2_inb c k) (k0_off2_packedbf16 c k) >>= fun _ =>
      sendRows (k0_off3 c (kw k)) (k0_off3_inb c k) (k0_off3_wordsbf16 c k) (peerX c) (aC false k) (aC_words false k) rfl (0, false, k)
  | true => copyRows (k0_off4 c (kw k)) (k0_off4_inb c k) (k0_off5 c (kw k)) (k0_off5_inb c k) (k0_off5_packedbf16 c k) >>= fun _ =>
      sendRows (k0_off6 c (kw k)) (k0_off6_inb c k) (k0_off6_wordsbf16 c k) (peerY c) (aC true k) (aC_words true k) rfl (0, true, k)

/-- The quarter this device reduces is copied in. -/
def fill (c : Dev nD) (s : Bool) : BodyP F PUnit :=
  match s with
  | false => copyQuarter (k0_off7 c) (k0_off7_inb c) (k0_off8 c) (k0_off8_inb c) (k0_off8_packedbf16 c)
  | true => copyQuarter (k0_off9 c) (k0_off9_inb c) (k0_off10 c) (k0_off10_inb c) (k0_off10_packedbf16 c)

/-- The chunk of this device's quarter gains a landed chunk. -/
def addBlk (c : Dev nD) (s : Bool) (l : Memref sig .tc .vmem S512x1024 .bf16) (k : Fin 4) : BodyP F PUnit :=
  match s with
  | false => addRows (k0_off11 c (kw k)) (k0_off11_inb c k) (k0_off11_packedbf16 c k) l k
  | true => addRows (k0_off13 c (kw k)) (k0_off13_inb c k) (k0_off13_packedbf16 c k) l k

/-- The chunk of this device's quarter is sent to the second exchange's peer; -/
def send2 (c : Dev nD) (s : Bool) (k : Fin 4) : BodyP F PUnit :=
  match s with
  | false => sendRows (k0_off12 c (kw k)) (k0_off12_inb c k) (k0_off12_wordsbf16 c k) (peerY c) (bC false k) (bC_words false k) rfl (1, false, k)
  | true => sendRows (k0_off14 c (kw k)) (k0_off14_inb c k) (k0_off14_wordsbf16 c k) (peerX c) (bC true k) (bC_words true k) rfl (1, true, k)

/-- and to the same rows of the first exchange's peer. -/
def send3 (c : Dev nD) (s : Bool) (k : Fin 4) : BodyP F PUnit :=
  match s with
  | false => sendRows (k0_off12 c (kw k)) (k0_off12_inb c k) (k0_off12_wordsbf16 c k) (peerX c) (oC (k0_off12 c (kw k)) (k0_off12_inb c k))
      ((Memref.isWhole_whole _).wordExact_slice rfl _ (k0_off12_wordsbf16 c k)) rfl (2, false, k)
  | true => sendRows (k0_off14 c (kw k)) (k0_off14_inb c k) (k0_off14_wordsbf16 c k) (peerY c) (oC (k0_off14 c (kw k)) (k0_off14_inb c k))
      ((Memref.isWhole_whole _).wordExact_slice rfl _ (k0_off14_wordsbf16 c k)) rfl (2, true, k)

/-- Second exchange: the first landing awaited and added, the sum sent on. -/
def blk2 (c : Dev nD) (s : Bool) (k : Fin 4) : BodyP F PUnit :=
  waitRows (rSem (0, s, k)) (aRef s) >>= fun _ => addBlk c s (aM s) k >>= fun _ => send2 c s k

/-- Third exchange: the sent sum and the second landing awaited, the landing added, the total sent on. -/
def blk3 (c : Dev nD) (s : Bool) (k : Fin 4) : BodyP F PUnit :=
  waitRows (sSem (1, s, k)) cc0_stg1_0 >>= fun _ => waitRows (rSem (1, s, k)) (bRef s) >>= fun _ => addBlk c s (bM s) k >>= fun _ => send3 c s k

/-- The total of a chunk that the peer reduced, awaited. -/
def landed (s : Bool) (k : Fin 4) : BodyP F PUnit := waitRows (rSem (2, s, k)) cc0_stg1_0

/-- A send of a phase awaited. -/
def sent (p : Fin 3) (s : Bool) (k : Fin 4) : BodyP F PUnit :=
  waitRows (sSem (p, s, k)) cc0_stg1_0

/-- The streams' chunks in the order the kernel takes them, -/
def turns : List (Bool × Fin 4) :=
  [(false, 0), (true, 0), (false, 1), (true, 1), (false, 2), (true, 2), (false, 3), (true, 3)]
/-- and stream by stream. -/
def rows : List (Bool × Fin 4) :=
  [(false, 0), (false, 1), (false, 2), (false, 3), (true, 0), (true, 1), (true, 2), (true, 3)]

/-- The barrier semaphore. -/
def barS : Sem sig := (SemArray.scalar (sig.barrier 0 rfl) : Sems sig S_).sem

/-- The kernel's body on a device. -/
def bodyOn (c : Dev nD) : BodyP F PUnit :=
  semSignalWord (peerX c) barS 1#32 >>= fun _ =>
  semSignalWord (peerY c) barS 1#32 >>= fun _ =>
  semWaitWord barS 2#32 >>= fun _ =>
  seqs (turns.map fun t => blk1 c t.1 t.2) >>= fun _ =>
  fill c false >>= fun _ =>
  fill c true >>= fun _ =>
  seqs (turns.map fun t => blk2 c t.1 t.2) >>= fun _ =>
  seqs (turns.map fun t => blk3 c t.1 t.2) >>= fun _ =>
  seqs (turns.map fun t => landed t.1 t.2) >>= fun _ =>
  seqs (rows.map fun t => sent 0 t.1 t.2) >>= fun _ =>
  seqs (rows.map fun t => sent 2 t.1 t.2)

/-- The body over the staging buffers that the launch gives it. -/
def theBody : BodyP F PUnit := Prog.lift .deviceId >>= fun c => bodyOn c

/-- The printed body is the body in blocks. -/
theorem body_eq : cc0_body (F := F) xM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 = theBody := by
  chain_rfl

end Cert.AllReduce
end
-- ==== Proof.Protocol.lean ====
/-
# The protocol

Who sends what to whom, on which semaphore, and with which contents. One round for every cell:

* a device's barrier signals lend the signalled device the landing buffers that it will send into;
* in the first exchange the sender's rows travel with the landing (the receiver later writes its total there);
* in the second and third exchange the sender's rows come back to it with its send semaphore.
-/
module

public import proofs.«01_k».proof.Proof.Body
public import Idealize.ShloMosaic.Lib.ValueLayout

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix4)

variable {F : FTy → Type} [FloatOps F]

/-- The ghost state: the staging pipeline's, and the rounds of the kernel's own cells with two duties at most. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The device across the first mesh axis, and across the second, in plain arithmetic. -/
def devX (c : Dev nD) : Dev nD := ⟨(c.val % 2 + 2) - 2 * (c.val / 2), by show _ < 4; omega⟩
def devY (c : Dev nD) : Dev nD := ⟨(2 * (c.val / 2) + 1) - c.val % 2, by have : c.val < 4 := c.isLt; show _ < 4; omega⟩

theorem peerX_eq (c : Dev nD) : peerX c = devX c := Fin.ext (k0_dev1_eq c)
theorem peerY_eq (c : Dev nD) : peerY c = devY c := Fin.ext (k0_dev2_eq c)

/-- The device a stream's first and third exchange are with, and its second exchange. -/
def peer1 (s : Bool) (c : Dev nD) : Dev nD := bif s then devY c else devX c
def peer2 (s : Bool) (c : Dev nD) : Dev nD := bif s then devX c else devY c

theorem peer1_peer1 : ∀ (s : Bool) (c : Dev nD), peer1 s (peer1 s c) = c := by decide
theorem peer2_peer2 : ∀ (s : Bool) (c : Dev nD), peer2 s (peer2 s c) = c := by decide
theorem peer1_not : ∀ (s : Bool) (c : Dev nD), peer1 (!s) c = peer2 s c := by decide
theorem peer2_not : ∀ (s : Bool) (c : Dev nD), peer2 (!s) c = peer1 s c := by decide

/-- The chunk of the result that device `c` reduces on stream `s`, of four: its number among the sixteen. -/
def mine (c : Dev nD) (s : Bool) (k : Fin 4) : Fin 16 :=
  ⟨(bif s then 8 + 4 * (c.val % 2) else 4 * (c.val / 2)) + k.val, by
    have : c.val < 4 := c.isLt; cases s <;> simp only [cond_true, cond_false] <;> omega⟩
/-- The chunk that the first exchange's peer reduces. -/
def theirs (c : Dev nD) (s : Bool) (k : Fin 4) : Fin 16 := mine (peer1 s c) s k

theorem mine_peer2 : ∀ (c : Dev nD) (s : Bool) (k : Fin 4), mine (peer2 s c) s k = mine c s k := by decide
theorem theirs_peer1 (c : Dev nD) (s : Bool) (k : Fin 4) : theirs (peer1 s c) s k = mine c s k := by
  unfold theirs; rw [peer1_peer1]

/-! ## Chunks of the result -/

theorem rowsInb (b : Fin 16) : ∀ a, (![128 * b.val, 0] : Fin 2 → Nat) a + S128x1024.size a ≤ S2048x1024.size a := by
  revert b; decide
/-- Chunk `b` of the result: its rectangle, its memref. -/
abbrev oR (b : Fin 16) : Rect S2048x1024 := Rect.unit (s := S2048x1024) ![128 * b.val, 0] S128x1024.size (rowsInb b)
abbrev oB (b : Fin 16) : Memref sig .tc .vmem S128x1024 .bf16 := (oM : Memref sig .tc .vmem S2048x1024 .bf16).slice (oR b) (fun _ => rfl)

/-- Chunk `k` of a landing buffer: its rectangle. -/
abbrev lR (k : Fin 4) : Rect S512x1024 := Rect.unit (s := S512x1024) ![128 * k.val, 0] S128x1024.size (chunk_inb k)

/-! ## Contents -/

variable (m : (ℓ : Loc nD τ sig) → Buf (Elt F) ℓ) (ρ : Dev nD → PrngReg)

/-- The machine at launch. -/
def s₀ : MemSt nD τ sig (Elt F) := ⟨m, fun _ => 0, ρ⟩

/-- The staged input of a device; -/
def xstg (c : Dev nD) : (cc0_stg0_0 : Ref sig .tc).ty.Contents (Elt F) :=
  (win0_0.blk (0 : Fin 1)).view.read (Elt F) ((s₀ m ρ).mem ((c : Thread nD τ).loc main_arg0))

/-- the same without its two unit axes; -/
def xo (c : Dev nD) : Vec F S2048x1024 .bf16 := fun i => xstg m ρ c (ix4 0 0 (i 0) (i 1))

/-- the sum after one exchange on a stream, and after two. -/
def sum1 (s : Bool) (c : Dev nD) : Vec F S2048x1024 .bf16 := addf (xo m ρ c) (xo m ρ (peer1 s c))
def sum2 (s : Bool) (c : Dev nD) : Vec F S2048x1024 .bf16 := addf (sum1 m ρ s c) (sum1 m ρ s (peer2 s c))

/-- A chunk of a result-shaped array. -/
def chunk (g : Vec F S2048x1024 .bf16) (b : Fin 16) : Vec F S128x1024 .bf16 := fun j => g ((oR b).emb j)

/-! ## Ownership -/

/-- Device `c` owns chunk `b` of its result, reading `X`; -/
abbrev oOwn (c : Dev nD) (b : Fin 16) (X : Vec F S128x1024 .bf16) : sProp 𝕄 := ownsTc c (oB b) fullShare X
/-- chunk `k` of a stream's first landing buffer, and of its second. -/
abbrev aOwn (c : Dev nD) (s : Bool) (k : Fin 4) (X : Vec F S128x1024 .bf16) : sProp 𝕄 := ownsTc c (aC s k) fullShare X
abbrev bOwn (c : Dev nD) (s : Bool) (k : Fin 4) (X : Vec F S128x1024 .bf16) : sProp 𝕄 := ownsTc c (bC s k) fullShare X

/-! ## Cells -/

abbrev barCell (c : Dev nD) : GSem nD τ sig := ((c : Thread nD τ), .reg barS)
abbrev sendCell (c : Dev nD) (q : Key) : GSem nD τ sig := ((c : Thread nD τ), .dma (sSem q))
abbrev recvCell (c : Dev nD) (q : Key) : GSem nD τ sig := ((c : Thread nD τ), .dma (rSem q))

/-- The device a key's transfer goes to. -/
def dest (c : Dev nD) (q : Key) : Dev nD := if q.1 = 1 then peer2 q.2.1 c else peer1 q.2.1 c

theorem dest_dest : ∀ (c : Dev nD) (q : Key), dest (dest c q) q = c := by decide

/-- The key of a number. -/
def keyOf (n : ℕ) : Key := (⟨n / 8 % 3, Nat.mod_lt _ (by decide)⟩, decide (4 ≤ n % 8), ⟨n % 4, Nat.mod_lt _ (by decide)⟩)
theorem keyOf_ix : ∀ q : Key, keyOf (Key.ix q).val = q := by decide

/-- A chunk's transfer, in a DMA semaphore's unit. -/
abbrev N : ℕ := (oB 0).view.dmaCredit
theorem N_pos : 0 < N := View.dmaCredit_pos _ (by decide)

/-! ## The schedule -/

/-- What a send semaphore hands back. -/
def sendPay (c : Dev nD) : Key → sProp 𝕄
  | (0, _, _) => iprop(emp)
  | (1, s, k) => oOwn c (mine c s k) (chunk (sum1 m ρ s c) (mine c s k))
  | (2, s, k) => oOwn c (mine c s k) (chunk (sum2 m ρ s c) (mine c s k))

/-- What a receive semaphore hands over. -/
def recvPay (c : Dev nD) : Key → sProp 𝕄
  | (0, s, k) => iprop(aOwn c s k (chunk (xo m ρ (peer1 s c)) (mine c s k))
      ∗ oOwn (peer1 s c) (mine c s k) (chunk (xo m ρ (peer1 s c)) (mine c s k)))
  | (1, s, k) => bOwn c s k (chunk (sum1 m ρ s (peer2 s c)) (mine c s k))
  | (2, s, k) => oOwn c (theirs c s k) (chunk (sum2 m ρ s (peer1 s c)) (theirs c s k))

/-- What the barrier signal of the device across an axis hands over: the landing buffers there that this device sends into. -/
def barPay (c : Dev nD) (d : Bool) : sProp 𝕄 :=
  iprop((bigSep Finset.univ fun k : Fin 4 => iprop(∃ X, aOwn (peer1 d c) d k X))
    ∗ bigSep Finset.univ fun k : Fin 4 => iprop(∃ X, bOwn (peer1 d c) (!d) k X))

/-- A DMA semaphore's payload, by its number. -/
def dmaPay (c : Dev nD) (n : ℕ) : sProp 𝕄 := if n < 26 then sendPay m ρ c (keyOf (n - 2)) else recvPay m ρ c (keyOf (n - 26))

instance sendPay_storable (c : Dev nD) (q : Key) : BI.Storable (upEmb : UEmb _ 𝕄) (sendPay m ρ c q) := by
  obtain ⟨p, s, k⟩ := q; fin_cases p <;> (dsimp only [sendPay]; infer_instance)
instance recvPay_storable (c : Dev nD) (q : Key) : BI.Storable (upEmb : UEmb _ 𝕄) (recvPay m ρ c q) := by
  obtain ⟨p, s, k⟩ := q; fin_cases p <;> (dsimp only [recvPay]; infer_instance)
instance barPay_storable (c : Dev nD) (d : Bool) : BI.Storable (upEmb : UEmb _ 𝕄) (barPay (F := F) c d) := by
  unfold barPay; infer_instance
instance dmaPay_storable (c : Dev nD) (n : ℕ) : BI.Storable (upEmb : UEmb _ 𝕄) (dmaPay m ρ c n) := by
  unfold dmaPay; split <;> infer_instance

/-- One round: two duties at a barrier cell, one at a send or receive cell. -/
def sched : Rounds.Schedule (GSem nD τ sig) Bool 𝕄 where
  duties g r := if r = 0 ∧ g.1.2 = .tc then (match g.2 with | .reg _ => Finset.univ | .dma q => if 2 ≤ q.val then {false} else ∅) else ∅
  unitless _ := False
  amount g _ _ := match g.2 with | .reg _ => 1 | .dma _ => N
  payload g _ d := match g.2 with | .reg _ => barPay g.1.1 d | .dma q => dmaPay m ρ g.1.1 q.val
  amount_pos g _ _ _ := by
    rcases g with ⟨t, s | q⟩
    · exact Nat.one_pos
    · exact N_pos

instance sched_storable (g : GSem nD τ sig) (r : ℕ) (d : Bool) : BI.Storable (upEmb : UEmb _ 𝕄) ((sched m ρ).payload g r d) := by
  rcases g with ⟨t, s | q⟩
  · show BI.Storable upEmb (barPay (F := F) t.1 d); infer_instance
  · show BI.Storable upEmb (dmaPay m ρ t.1 q.val); infer_instance

section Sched
variable (c : Dev nD) (q : Key)

theorem duties_bar : (sched m ρ).duties (barCell c) 0 = Finset.univ := by dsimp only [sched]; exact if_pos ⟨rfl, rfl⟩
theorem duties_send : (sched m ρ).duties (sendCell c q) 0 = {false} := by
  dsimp only [sched]; rw [if_pos ⟨rfl, rfl⟩]; exact if_pos (Nat.le_add_right 2 _)
theorem duties_recv : (sched m ρ).duties (recvCell c q) 0 = {false} := by
  dsimp only [sched]; rw [if_pos ⟨rfl, rfl⟩]; exact if_pos (le_trans (by decide) (Nat.le_add_right 26 _))
theorem duties_later (g : GSem nD τ sig) : ∀ r, 1 ≤ r → (sched m ρ).duties g r = ∅ :=
  fun r hr => by dsimp only [sched]; exact if_neg fun h => by omega

theorem payload_send (d : Bool) : (sched m ρ).payload (sendCell c q) 0 d = sendPay m ρ c q := by
  show dmaPay m ρ c (2 + (Key.ix q).val) = _
  have := (Key.ix q).isLt
  rw [dmaPay, if_pos (by omega), Nat.add_sub_cancel_left, keyOf_ix]
theorem payload_recv (d : Bool) : (sched m ρ).payload (recvCell c q) 0 d = recvPay m ρ c q := by
  show dmaPay m ρ c (26 + (Key.ix q).val) = _
  rw [dmaPay, if_neg (by omega), Nat.add_sub_cancel_left, keyOf_ix]
theorem payload_bar (d : Bool) : (sched m ρ).payload (barCell c) 0 d = barPay c d := rfl

theorem expect_bar : (sched m ρ).expect (barCell c) 0 = 2 := by
  unfold Schedule.expect Schedule.amountOf; rw [duties_bar]; rfl
theorem expect_send : (sched m ρ).expect (sendCell c q) 0 = N := by
  unfold Schedule.expect Schedule.amountOf; rw [duties_send, Finset.sum_singleton]; rfl
theorem expect_recv : (sched m ρ).expect (recvCell c q) 0 = N := by
  unfold Schedule.expect Schedule.amountOf; rw [duties_recv, Finset.sum_singleton]; rfl

theorem rest_send : bigSep ((sched m ρ).duties (sendCell c q) 0 \ ∅) (fun d => (sched m ρ).payload (sendCell c q) 0 d) = sendPay m ρ c q := by
  rw [Finset.sdiff_empty, duties_send, bigSep_singleton, payload_send]
theorem rest_recv : bigSep ((sched m ρ).duties (recvCell c q) 0 \ ∅) (fun d => (sched m ρ).payload (recvCell c q) 0 d) = recvPay m ρ c q := by
  rw [Finset.sdiff_empty, duties_recv, bigSep_singleton, payload_recv]
theorem rest_bar : bigSep ((sched m ρ).duties (barCell c) 0 \ ∅) (fun d => (sched m ρ).payload (barCell c) 0 d)
    = bigSep Finset.univ fun d => barPay (F := F) c d := by
  rw [Finset.sdiff_empty, duties_bar]; rfl

end Sched

/-! ## Debts and levels -/

/-- What a device still owes for a list of transfers to come; -/
def due (c : Dev nD) : List Key → CellTallies nD τ sig Unit
  | [] => 0
  | q :: l => due c l + tallyAt (recvCell (dest c q) q) () N

/-- the transfers of a phase over a list of turns, and every transfer in the kernel's order. -/
def keys (p : Fin 3) (l : List (Bool × Fin 4)) : List Key := l.map fun t => (p, t)
def allKeys : List Key := keys 0 turns ++ (keys 1 turns ++ keys 2 turns)

/-- What a device owes at launch. -/
def O₀ (c : Dev nD) : CellTallies nD τ sig Unit :=
  due c allKeys + tallyAt (barCell (devY c)) () 1 + tallyAt (barCell (devX c)) () 1

def L (g : GSem nD τ sig) : Finset Unit := if g.1.2 = .tc then {()} else ∅
/-- A cell's level: staging and send cells lowest, the barrier next, then the receive cells phase by phase. -/
def semLv : SemLoc sig → ℕ
  | .reg _ => 1
  | .dma q => if 26 ≤ q.val then 2 + (q.val - 26) / 8 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_recv : ∀ q : Key, semLv (.dma (rSem q)) = 2 + q.1.val := by decide
theorem semLv_send : ∀ q : Key, semLv (.dma (sSem q)) = 0 := by decide

theorem due_pos {c : Dev nD} {l : List Key} {g : GSem nD τ sig} {u : Unit} (h : 0 < due c l g u) :
    ∃ q ∈ l, g = recvCell (dest c q) q := by
  induction l with
  | nil => exact absurd h (Nat.lt_irrefl 0)
  | cons q l ih =>
    rw [due, Pi.add_apply, Finsupp.add_apply, tallyAt_apply] at h
    by_cases hq : g = recvCell (dest c q) q ∧ u = ()
    · exact ⟨q, List.mem_cons_self, hq.1⟩
    · rw [if_neg hq, Nat.add_zero] at h
      obtain ⟨q', hq', e⟩ := ih h
      exact ⟨q', List.mem_cons_of_mem _ hq', e⟩

/-- A wait on a cell below every cell still owed to is allowed. -/
theorem mayWait_due (c : Dev nD) (sm : SemLoc sig) (l : List Key) (h : ∀ q ∈ l, semLv sm < 2 + q.1.val) :
    (levAts L lv : sProp 𝕄) ⊢ MayWait (c : Thread nD τ) sm () (due c l) :=
  MayOwe.of_cut (L := L) (lev := lv) (semLv sm)
    (fun p hp => by rw [Finset.mem_singleton.mp hp, L_tc]; exact Finset.mem_singleton_self _)
    (fun g u hg => by obtain ⟨q, -, rfl⟩ := due_pos hg; rw [L_tc]; exact Finset.mem_singleton_self _)
    (fun p hp => by rw [Finset.mem_singleton.mp hp]; exact le_refl _)
    (fun g u hg => by
      obtain ⟨q, hq, rfl⟩ := due_pos hg
      show _ < semLv (.dma (rSem q)); rw [semLv_recv]; exact h q hq)

end Cert.AllReduce
end
-- ==== Proof.Steps.lean ====
/-
# The steps' specifications

What each block of the body does to the memrefs its thread owns: rows copied, rows added, rows sent.
-/
module

public import proofs.«01_k».proof.Proof.Protocol

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix4)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a body program on a device. -/
abbrev wpc {α : Type} (c : Dev nD) (p : BodyP F α) (Q : α → sProp 𝕄) : sProp 𝕄 :=
  wp frame (wpE (defs₀ (F := F)) 𝒱₀ (c : Thread nD τ) none) Set.univ p Q

/-- A specified program at the head of another. -/
theorem wpc_then {c : Dev nD} {p k : BodyP F PUnit} {P R : sProp 𝕄} {Q : PUnit → sProp 𝕄} (h : P ⊢ wpc c p fun _ => R) :
    P ⊢ iprop((R -∗ wpc c k Q) -∗ wpc c (p >>= fun _ => k) Q) := by
  unfold wpc
  rw [wp_bind]
  refine h.trans ((wp_wand frame _ Set.univ (Q' := fun _ => wpc c k Q)).trans ?_)
  iintro H Hk
  iapply H
  iintro %a Ha
  iapply Hk; iexact Ha

/-! ## Loads and stores through a slice -/

section Generic

variable {sp : CoreSpace} {s : Shape} {e : EltTy}

/-- A load of a rectangle whose slice the thread owns. -/
theorem wp_load_owns (c : Dev nD) {b : Memref sig .tc sp s e} {r : Rect s} {hr : ∀ a, r.stride a = 1} {hl : b.view.LoadsAt r}
    {α : Type} {k : (r.shape.Idx → Elt F e) → BodyP F α} {Q : α → sProp 𝕄} {X : r.shape.Idx → Elt F e} :
    (ownsTc c (b.slice r hr) fullShare X)
      ⊢ iprop((ownsTc c (b.slice r hr) fullShare X -∗ wpc c (k X) Q) -∗ wpc c (.op (.load b r.toLoadRect hl) k) Q) := by
  unfold ownsTc owns
  iintro ⟨%f, %hf, H⟩ Hk
  iapply (wp_load_rect 𝒱₀ (c : Thread nD τ) none Set.univ (m := b) (r := r) (S := (b.access r).set) subset_rfl) $$ H
  iintro H
  have e : (b.access r).read (Elt F) f = X := hf
  rw [e]
  iapply Hk
  iexists f
  isplitr
  · ipureintro; exact hf
  · iexact H

/-- A load of a rectangle of a memref owned whole. -/
theorem wp_load_part (c : Dev nD) {b : Memref sig .tc sp s e} {r : Rect s} {hl : b.view.LoadsAt r}
    {α : Type} {k : (r.shape.Idx → Elt F e) → BodyP F α} {Q : α → sProp 𝕄} {X : s.Idx → Elt F e} :
    (ownsTc c b fullShare X)
      ⊢ iprop((ownsTc c b fullShare X -∗ wpc c (k fun j => X (r.emb j)) Q) -∗ wpc c (.op (.load b r.toLoadRect hl) k) Q) := by
  unfold ownsTc owns
  iintro ⟨%f, %hf, H⟩ Hk
  iapply (wp_load_rect 𝒱₀ (c : Thread nD τ) none Set.univ (m := b) (r := r) (S := b.view.set) (b.view.set_slice_subset r)) $$ H
  iintro H
  have e : (b.access r).read (Elt F) f = fun j => X (r.emb j) := by rw [← hf]; rfl
  rw [e]
  iapply Hk
  iexists f
  isplitr
  · ipureintro; exact hf
  · iexact H

/-- A store to a rectangle whose slice the thread owns. -/
theorem wp_store_owns (c : Dev nD) {b : Memref sig .tc sp s e} {r : Rect s} {hr : ∀ a, r.stride a = 1} {w : r.shape.Idx → Elt F e}
    {hx : (b.access r).Stores Finset.univ} {hm : (Finset.univ : Finset r.shape.Idx) = Finset.univ ∨ ∀ a, r.stride a = 1}
    {α : Type} {k : PUnit → BodyP F α} {Q : α → sProp 𝕄} {X : r.shape.Idx → Elt F e} :
    (ownsTc c (b.slice r hr) fullShare X)
      ⊢ iprop((ownsTc c (b.slice r hr) fullShare w -∗ wpc c (k ⟨⟩) Q) -∗ wpc c (.op (.store b r w Finset.univ hx hm) k) Q) := by
  unfold ownsTc owns
  iintro ⟨%f, %hf, H⟩ Hk
  iapply (wp_store 𝒱₀ (c : Thread nD τ) none Set.univ (m := b) (r := r) (Mk := Finset.univ) (S := (b.access r).set) subset_rfl) $$ H
  iintro H
  iapply Hk
  iexists ((b.access r).write (Elt F) f w Finset.univ)
  isplitr
  · ipureintro; exact (b.access r).read_write_univ f w
  · iexact H

end Generic

/-! ## The arithmetic of a copy -/

/-- Two leading unit axes dropped by a shape cast. -/
theorem shapeCast_drop2 {α : Type} {a b : ℕ} (x : (⟨4, ![1, 1, a, b]⟩ : Shape).Idx → α)
    (h : (⟨4, ![1, 1, a, b]⟩ : Shape).ShapeCasts ⟨2, ![a, b]⟩) (j : (⟨2, ![a, b]⟩ : Shape).Idx) :
    shapeCast ⟨2, ![a, b]⟩ x h j = x (ix4 (0 : Fin 1) (0 : Fin 1) (j 0) (j 1)) :=
  shapeCast_apply x h _ _ (by
    rw [Shape.rowMajor_val_four, Shape.rowMajor_val_two]
    show ((0 * 1 + 0) * a + (j 0).val) * b + (j 1).val = (j 0).val * b + (j 1).val
    rw [Nat.zero_mul, Nat.zero_add])

/-- Rows of the staged input, cast to the result's shape: the same rows without the unit axes. -/
theorem rows_cast (c : Dev nD) {n r : ℕ} (hx : ∀ a, (![0, 0, r, 0] : Fin 4 → ℕ) a + (⟨4, ![1, 1, n, 1024]⟩ : Shape).size a ≤ S1x1x2048x1024.size a)
    (ho : ∀ a, (![r, 0] : Fin 2 → ℕ) a + (⟨2, ![n, 1024]⟩ : Shape).size a ≤ S2048x1024.size a)
    (h : (⟨4, ![1, 1, n, 1024]⟩ : Shape).ShapeCasts ⟨2, ![n, 1024]⟩) :
    shapeCast ⟨2, ![n, 1024]⟩ (fun j => xstg m ρ c ((Rect.unit (s := S1x1x2048x1024) ![0, 0, r, 0] (⟨4, ![1, 1, n, 1024]⟩ : Shape).size hx).emb j)) h
      = fun j => xo m ρ c ((Rect.unit (s := S2048x1024) ![r, 0] (⟨2, ![n, 1024]⟩ : Shape).size ho).emb j) := by
  funext j
  rw [shapeCast_drop2]
  unfold xo
  refine congrArg (xstg m ρ c) (funext fun a => Fin.ext ?_)
  fin_cases a <;> rfl

/-! ## Copies and sums -/

/-- A chunk copied in. -/
theorem copyRows_spec (c : Dev nD) (b : Fin 16) {ox hx o h hp} (hox : ox = ![0, 0, 128 * b.val, 0]) (ho : o = ![128 * b.val, 0])
    (X : Vec F S128x1024 .bf16) :
    iprop(ownsTc c xM fullShare (xstg m ρ c) ∗ oOwn c b X)
      ⊢ wpc c (copyRows ox hx o h hp) fun _ => iprop(ownsTc c xM fullShare (xstg m ρ c) ∗ oOwn c b (chunk (xo m ρ c) b)) := by
  subst hox; subst ho
  unfold copyRows
  simp only [Prog.lift, Prog.bind_op, Prog.bind_ret]
  iintro ⟨Hx, Ho⟩
  iapply (wp_load_part c (b := xM)) $$ Hx; iintro Hx
  iapply (wp_load_owns c (b := oM) (r := oR b)) $$ Ho; iintro Ho
  iapply (wp_store_owns c (b := oM) (r := oR b)) $$ Ho; iintro Ho
  unfold wpc
  rw [wp_ret]; imodintro
  isplitl [Hx]; · iexact Hx
  rw [show (shapeCast S128x1024 (fun j => xstg m ρ c ((Rect.unit (s := S1x1x2048x1024) ![0, 0, 128 * b.val, 0] S1x1x128x1024.size hx).emb j)) shapeCasts_S1x1x128x1024_S128x1024)
    = chunk (xo m ρ c) b from rows_cast m ρ c hx (rowsInb b) _]
  iexact Ho

/-- A quarter of the result: its rectangle, its memref. -/
theorem quarterInb (u : Fin 4) : ∀ a, (![512 * u.val, 0] : Fin 2 → Nat) a + S512x1024.size a ≤ S2048x1024.size a := by
  revert u; decide
abbrev qR (u : Fin 4) : Rect S2048x1024 := Rect.unit (s := S2048x1024) ![512 * u.val, 0] S512x1024.size (quarterInb u)
abbrev oQ (u : Fin 4) : Memref sig .tc .vmem S512x1024 .bf16 := (oM : Memref sig .tc .vmem S2048x1024 .bf16).slice (qR u) (fun _ => rfl)
/-- The quarter of a result-shaped array. -/
def quarter (g : Vec F S2048x1024 .bf16) (u : Fin 4) : Vec F S512x1024 .bf16 := fun j => g ((qR u).emb j)

/-- A quarter copied in. -/
theorem copyQuarter_spec (c : Dev nD) (u : Fin 4) {ox hx o h hp} (hox : ox = ![0, 0, 512 * u.val, 0]) (ho : o = ![512 * u.val, 0])
    (X : Vec F S512x1024 .bf16) :
    iprop(ownsTc c xM fullShare (xstg m ρ c) ∗ ownsTc c (oQ u) fullShare X)
      ⊢ wpc c (copyQuarter ox hx o h hp) fun _ => iprop(ownsTc c xM fullShare (xstg m ρ c) ∗ ownsTc c (oQ u) fullShare (quarter (xo m ρ c) u)) := by
  subst hox; subst ho
  unfold copyQuarter
  simp only [Prog.lift, Prog.bind_op, Prog.bind_ret]
  iintro ⟨Hx, Ho⟩
  iapply (wp_load_part c (b := xM)) $$ Hx; iintro Hx
  iapply (wp_load_owns c (b := oM) (r := qR u)) $$ Ho; iintro Ho
  iapply (wp_store_owns c (b := oM) (r := qR u)) $$ Ho; iintro Ho
  unfold wpc
  rw [wp_ret]; imodintro
  isplitl [Hx]; · iexact Hx
  rw [show (shapeCast S512x1024 (fun j => xstg m ρ c ((Rect.unit (s := S1x1x2048x1024) ![0, 0, 512 * u.val, 0] S1x1x512x1024.size hx).emb j)) shapeCasts_S1x1x512x1024_S512x1024)
    = quarter (xo m ρ c) u from rows_cast m ρ c hx (quarterInb u) _]
  iexact Ho

/-- A chunk gains a landed chunk. -/
theorem addRows_spec (c : Dev nD) (b : Fin 16) {o h hp} (ho : o = ![128 * b.val, 0]) (l : Memref sig .tc .vmem S512x1024 .bf16) (k : Fin 4)
    (X Y : Vec F S128x1024 .bf16) :
    iprop(oOwn c b X ∗ ownsTc c (l.slice (lR k) (fun _ => rfl)) fullShare Y)
      ⊢ wpc c (addRows o h hp l k) fun _ => iprop(oOwn c b (addf X Y) ∗ ownsTc c (l.slice (lR k) (fun _ => rfl)) fullShare Y) := by
  subst ho
  unfold addRows
  simp only [Prog.lift, Prog.bind_op, Prog.bind_ret]
  iintro ⟨Ho, Hl⟩
  iapply (wp_load_owns c (b := oM) (r := oR b)) $$ Ho; iintro Ho
  iapply (wp_load_owns c (b := l) (r := lR k)) $$ Hl; iintro Hl
  iapply (wp_load_owns c (b := oM) (r := oR b)) $$ Ho; iintro Ho
  iapply (wp_store_owns c (b := oM) (r := oR b)) $$ Ho; iintro Ho
  unfold wpc
  rw [wp_ret]; imodintro
  rw [show shapeCast S128x1024 X shapeCasts_S128x1024_S128x1024 = X from shapeCast_self _ _]
  isplitl [Ho]; · iexact Ho
  iexact Hl

/-! ## The cells' records -/

/-- A device's cells: the barrier, and a send (`false`) or receive (`true`) cell per key. -/
abbrev Ci : Type := Option (Bool × Key)
def csem : Ci → SemLoc sig
  | none => .reg barS
  | some (false, q) => .dma (sSem q)
  | some (true, q) => .dma (rSem q)
abbrev kcell (ck : Dev nD × Ci) : GSem nD τ sig := ((ck.1 : Thread nD τ), csem ck.2)

/-- Every cell's invariant and the mark that its round is open, and the cells' levels. -/
def records (K : Dev nD × Ci → ℕ) : sProp 𝕄 :=
  iprop((bigSep Finset.univ fun ck : Dev nD × Ci => cellInv ER (sched m ρ) (K ck) (kcell ck))
    ∗ (bigSep Finset.univ fun ck : Dev nD × Ci => reached ER (kcell ck) 0) ∗ levAts L lv)

instance records_persistent (K : Dev nD × Ci → ℕ) : BI.Persistent (records m ρ K) := by unfold records; infer_instance

variable (K : Dev nD × Ci → ℕ)

theorem inv_of (ck : Dev nD × Ci) : records m ρ K ⊢ cellInv ER (sched m ρ) (K ck) (kcell ck) := by
  unfold records
  exact Laws.sep_and.trans (and_elimL.trans (bigSep_elim (Finset.mem_univ ck)))
theorem reached_of (ck : Dev nD × Ci) : records m ρ K ⊢ reached ER (kcell ck) 0 := by
  unfold records
  exact Laws.sep_and.trans (and_elimR.trans (BI.sep_and.trans (and_elimL.trans (bigSep_elim (Finset.mem_univ ck)))))
theorem lev_of : records m ρ K ⊢ levAts L lv := by
  unfold records
  iintro ⟨-, -, H⟩; iexact H

/-! ## Sends -/

/-- What a device still owes, whatever it has waited for. -/
def owing (c : Dev nD) (l : List Key) : sProp 𝕄 := iprop(∃ W, owes (c : Thread nD τ) (due c l) W)

/-- The two tokens a device spends on a key's transfer. -/
def toks (c : Dev nD) (q : Key) : sProp 𝕄 :=
  iprop(dutyTok ER (sendCell c q) 0 false ∗ dutyTok ER (recvCell (dest c q) q) 0 false)

/-- Elements that read `X` through a memref are that memref owned at `X`. -/
theorem owns_at {sp : CoreSpace} {s : Shape} {e : EltTy} (d : Dev nD) (v : Memref sig .tc sp s e) (X : s.Idx → Elt F e)
    (f : Buf (Elt F) (v.view.loc (d : Thread nD τ))) (hf : v.view.read (Elt F) f = X) :
    (v.view.loc (d : Thread nD τ) ↦[v.view.set]{fullShare} f : sProp 𝕄) ⊢ ownsTc d v fullShare X := by
  subst hf; exact owns_intro (d : Thread nD τ) v fullShare f

/-- A chunk sent, the sender's rows to come back with its send semaphore. -/
theorem sendRows_spec (c : Dev nD) (q : Key) (b : Fin 16) {o h hw dev} {v : Memref sig .tc .vmem S128x1024 .bf16} {hv : v.view.WordExact} {hsc : v.view.ref.isScScratch = false}
    (ho : o = ![128 * b.val, 0]) (hdev : dev = dest c q) (hN : v.view.dmaCredit = N)
    (X Y : Vec F S128x1024 .bf16) (l : List Key)
    (hpay₁ : oOwn c b X ⊢ sendPay m ρ c q) (hpay₂ : ownsTc (dest c q) v fullShare X ⊢ recvPay m ρ (dest c q) q) :
    iprop(records m ρ K ∗ oOwn c b X ∗ ownsTc (dest c q) v fullShare Y ∗ toks c q ∗ owing c (q :: l))
      ⊢ wpc c (sendRows o h hw dev v hv hsc q) fun _ => iprop(cred (tallyAt (sendCell c q) () N) ∗ owing c l) := by
  subst ho; subst hdev
  have hA : v.view.amount (.dma (rSem q)) = N := hN
  unfold sendRows Prog.lift oOwn ownsTc owns toks owing
  iintro ⟨#HR, ⟨%fs, %hfs, Hs⟩, ⟨%fd, %hfd, Hd⟩, ⟨Ht1, Ht2⟩, ⟨%W, HO⟩⟩
  have hp₁ := (owns_at c (oB b) X fs hfs).trans (hpay₁.trans (Entails.of_eq (payload_send m ρ c q false).symm))
  have hp₂ := (owns_at (dest c q) v X (v.view.write (Elt F) fd ((oB b).view.read (Elt F) fs) Finset.univ) ((v.view.read_write_univ fd _).trans hfs)).trans
    (hpay₂.trans (Entails.of_eq (payload_recv m ρ (dest c q) q false).symm))
  iapply (Rounds.wp_send_pointsTo 𝒱₀ ER (sched m ρ) (c : Thread nD τ) none (κ₁ := K (c, some (false, q))) (κ₂ := K (dest c q, some (true, q)))
    (r₁ := 0) (r₂ := 0) (d₁ := false) (d₂ := false) (fd := fd) (fs := fs) (q := fullShare) (c' := ((dest c q : Dev nD) : Thread nD τ)) (src := oB b) (dst := v)
    (sS := .dma (sSem q)) (sem := .dma (rSem q))
    (by rw [duties_send]; exact Finset.mem_singleton_self _) (by rw [duties_recv]; exact Finset.mem_singleton_self _)
    () () N hA rfl rfl (due c l) rfl (W := W) hp₁ hp₂ (hr := Topo.routes_tc c (dest c q))) $$ [Hs Hd Ht1 Ht2 HO]
  · isplitr; · iapply (inv_of m ρ K (c, some (false, q))); iexact HR
    isplitr; · iapply (inv_of m ρ K (dest c q, some (true, q))); iexact HR
    isplitl [Hs]; · iexact Hs
    isplitl [Hd]; · iexact Hd
    isplitl [HO]; · iexact HO
    isplitl [Ht1]; · iexact Ht1
    isplitr; · iapply (reached_of m ρ K (c, some (false, q))); iexact HR
    isplitl [Ht2]; · iexact Ht2
    iapply (reached_of m ρ K (dest c q, some (true, q))); iexact HR
  iintro ⟨Hc, HO⟩
  rw [wp_ret]; imodintro
  isplitl [Hc]; · iexact Hc
  iexists W; iexact HO

/-- A chunk sent, the sender's rows to go along with the landing. -/
theorem sendRows_spec' (c : Dev nD) (q : Key) (b : Fin 16) {o h hw dev} {v : Memref sig .tc .vmem S128x1024 .bf16} {hv : v.view.WordExact} {hsc : v.view.ref.isScScratch = false}
    (ho : o = ![128 * b.val, 0]) (hdev : dev = dest c q) (hN : v.view.dmaCredit = N)
    (X Y : Vec F S128x1024 .bf16) (l : List Key)
    (hpay₁ : (emp : sProp 𝕄) ⊢ sendPay m ρ c q) (hpay₂ : iprop(ownsTc (dest c q) v fullShare X ∗ oOwn c b X) ⊢ recvPay m ρ (dest c q) q) :
    iprop(records m ρ K ∗ oOwn c b X ∗ ownsTc (dest c q) v fullShare Y ∗ toks c q ∗ owing c (q :: l))
      ⊢ wpc c (sendRows o h hw dev v hv hsc q) fun _ => iprop(cred (tallyAt (sendCell c q) () N) ∗ owing c l) := by
  subst ho; subst hdev
  have hA : v.view.amount (.dma (rSem q)) = N := hN
  unfold sendRows Prog.lift oOwn ownsTc owns toks owing
  iintro ⟨#HR, ⟨%fs, %hfs, Hs⟩, ⟨%fd, %hfd, Hd⟩, ⟨Ht1, Ht2⟩, ⟨%W, HO⟩⟩
  have hp₁ := hpay₁.trans (Entails.of_eq (payload_send m ρ c q false).symm)
  have hp₂ := (Laws.sep_mono (owns_at (dest c q) v X (v.view.write (Elt F) fd ((oB b).view.read (Elt F) fs) Finset.univ) ((v.view.read_write_univ fd _).trans hfs))
    (owns_at c (oB b) X fs hfs)).trans (hpay₂.trans (Entails.of_eq (payload_recv m ρ (dest c q) q false).symm))
  iapply (Rounds.wp_send_landing_pointsTo 𝒱₀ ER (sched m ρ) (c : Thread nD τ) none (κ₁ := K (c, some (false, q))) (κ₂ := K (dest c q, some (true, q)))
    (r₁ := 0) (r₂ := 0) (d₁ := false) (d₂ := false) (fd := fd) (fs := fs) (q := fullShare) (c' := ((dest c q : Dev nD) : Thread nD τ)) (src := oB b) (dst := v)
    (sS := .dma (sSem q)) (sem := .dma (rSem q))
    (by rw [duties_send]; exact Finset.mem_singleton_self _) (by rw [duties_recv]; exact Finset.mem_singleton_self _)
    () () N hA rfl rfl (due c l) rfl (W := W) hp₁ hp₂ (hr := Topo.routes_tc c (dest c q))) $$ [Hs Hd Ht1 Ht2 HO]
  · isplitr; · iapply (inv_of m ρ K (c, some (false, q))); iexact HR
    isplitr; · iapply (inv_of m ρ K (dest c q, some (true, q))); iexact HR
    isplitl [Hs]; · iexact Hs
    isplitl [Hd]; · iexact Hd
    isplitl [HO]; · iexact HO
    isplitl [Ht1]; · iexact Ht1
    isplitr; · iapply (reached_of m ρ K (c, some (false, q))); iexact HR
    isplitl [Ht2]; · iexact Ht2
    iapply (reached_of m ρ K (dest c q, some (true, q))); iexact HR
  iintro ⟨Hc, HO⟩
  rw [wp_ret]; imodintro
  isplitl [Hc]; · iexact Hc
  iexists W; iexact HO

/-! ## Waits -/

/-- A wait on a send cell: its payload comes back. -/
theorem waitSend_spec (c : Dev nD) (q : Key) (b : Ref sig .tc) (hN : b.dmaCredit S128x1024 .bf16 = N) (l : List Key) :
    iprop(records m ρ K ∗ cred (tallyAt (sendCell c q) () N) ∗ atPos ER (sendCell c q) 0 ∅ 0 ∗ owing c l)
      ⊢ wpc c (waitRows (sSem q) b) fun _ => iprop(sendPay m ρ c q ∗ atPos ER (sendCell c q) 1 ∅ 0 ∗ owing c l) := by
  have hm : 0 + b.dmaCredit S128x1024 .bf16 = (sched m ρ).expect (sendCell c q) 0 := by rw [Nat.zero_add, expect_send, hN]
  unfold waitRows Prog.lift owing
  iintro ⟨#HR, Hc, Ha, ⟨%W, HO⟩⟩
  iapply (Rounds.wp_wait_rest_token 𝒱₀ ER (sched m ρ) (c : Thread nD τ) none (κ := K (c, some (false, q)))
      (wpE_waitDma_eq 𝒱₀ (c : Thread nD τ) none Set.univ) (Set.mem_univ _) () (O := due c l) (W := W) (R := 0) (m := 0) (T := ∅)
      hm) $$ [Hc HO Ha]
  · isplitr; · iapply (inv_of m ρ K (c, some (false, q))); iexact HR
    isplitl [Hc]; · rw [hN]; iexact Hc
    isplitl [HO]; · iexact HO
    isplitr
    · iapply (mayWait_due c (.dma (sSem q)) l fun q' _ => by rw [semLv_send]; omega)
      iapply (lev_of m ρ K); iexact HR
    iexact Ha
  iintro ⟨HO, Ha, -, Hp⟩
  ihave Hp := (Entails.of_eq (rest_send m ρ c q)) $$ Hp
  rw [wp_ret]; imodintro
  isplitl [Hp]; · iexact Hp
  isplitl [Ha]; · iexact Ha
  iexists _; iexact HO

/-- A wait on a receive cell, below what is still owed: its payload comes over. -/
theorem waitRecv_spec (c : Dev nD) (q : Key) (b : Ref sig .tc) (hN : b.dmaCredit S128x1024 .bf16 = N) (l : List Key) (hl : ∀ q' ∈ l, q.1.val < q'.1.val) :
    iprop(records m ρ K ∗ cred (tallyAt (recvCell c q) () N) ∗ atPos ER (recvCell c q) 0 ∅ 0 ∗ owing c l)
      ⊢ wpc c (waitRows (rSem q) b) fun _ => iprop(recvPay m ρ c q ∗ atPos ER (recvCell c q) 1 ∅ 0 ∗ owing c l) := by
  have hm : 0 + b.dmaCredit S128x1024 .bf16 = (sched m ρ).expect (recvCell c q) 0 := by rw [Nat.zero_add, expect_recv, hN]
  unfold waitRows Prog.lift owing
  iintro ⟨#HR, Hc, Ha, ⟨%W, HO⟩⟩
  iapply (Rounds.wp_wait_rest_token 𝒱₀ ER (sched m ρ) (c : Thread nD τ) none (κ := K (c, some (true, q)))
      (wpE_waitDma_eq 𝒱₀ (c : Thread nD τ) none Set.univ) (Set.mem_univ _) () (O := due c l) (W := W) (R := 0) (m := 0) (T := ∅)
      hm) $$ [Hc HO Ha]
  · isplitr; · iapply (inv_of m ρ K (c, some (true, q))); iexact HR
    isplitl [Hc]; · rw [hN]; iexact Hc
    isplitl [HO]; · iexact HO
    isplitr
    · iapply (mayWait_due c (.dma (rSem q)) l fun q' hq' => by rw [semLv_recv]; have := hl q' hq'; omega)
      iapply (lev_of m ρ K); iexact HR
    iexact Ha
  iintro ⟨HO, Ha, -, Hp⟩
  ihave Hp := (Entails.of_eq (rest_recv m ρ c q)) $$ Hp
  rw [wp_ret]; imodintro
  isplitl [Hp]; · iexact Hp
  isplitl [Ha]; · iexact Ha
  iexists _; iexact HO

end Cert.AllReduce
end
-- ==== Proof.Blocks.lean ====
/-
# The blocks' specifications

What each block of the body takes and gives for one chunk of one stream, and what a run of blocks takes and gives.
-/
module

public import proofs.«01_k».proof.Proof.Steps
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Ci → ℕ)

/-! ## The printed offsets are the chunks' first rows -/

section Offsets
variable (c : Dev nD) (k : Fin 4)

theorem off1_at : k0_off1 c (kw k) = ![0, 0, 128 * (theirs c false k).val, 0] := (k0_off1_eq c k).trans (by revert c k; decide)
theorem off2_at : k0_off2 c (kw k) = ![128 * (theirs c false k).val, 0] := (k0_off2_eq c k).trans (by revert c k; decide)
theorem off3_at : k0_off3 c (kw k) = ![128 * (theirs c false k).val, 0] := (k0_off3_eq c k).trans (by revert c k; decide)
theorem off4_at : k0_off4 c (kw k) = ![0, 0, 128 * (theirs c true k).val, 0] := (k0_off4_eq c k).trans (by revert c k; decide)
theorem off5_at : k0_off5 c (kw k) = ![128 * (theirs c true k).val, 0] := (k0_off5_eq c k).trans (by revert c k; decide)
theorem off6_at : k0_off6 c (kw k) = ![128 * (theirs c true k).val, 0] := (k0_off6_eq c k).trans (by revert c k; decide)
theorem off11_at : k0_off11 c (kw k) = ![128 * (mine c false k).val, 0] := (k0_off11_eq c k).trans (by revert c k; decide)
theorem off12_at : k0_off12 c (kw k) = ![128 * (mine c false k).val, 0] := (k0_off12_eq c k).trans (by revert c k; decide)
theorem off13_at : k0_off13 c (kw k) = ![128 * (mine c true k).val, 0] := (k0_off13_eq c k).trans (by revert c k; decide)
theorem off14_at : k0_off14 c (kw k) = ![128 * (mine c true k).val, 0] := (k0_off14_eq c k).trans (by revert c k; decide)

/-- The number of the quarter that a device reduces on a stream. -/
def quart (s : Bool) : Fin 4 := ⟨bif s then 2 + c.val % 2 else c.val / 2, by
  have : c.val < 4 := c.isLt; cases s <;> simp only [cond_true, cond_false] <;> omega⟩

theorem off7_at : k0_off7 c = ![0, 0, 512 * (quart c false).val, 0] := (k0_off7_eq c).trans (by revert c; decide)
theorem off8_at : k0_off8 c = ![512 * (quart c false).val, 0] := (k0_off8_eq c).trans (by revert c; decide)
theorem off9_at : k0_off9 c = ![0, 0, 512 * (quart c true).val, 0] := (k0_off9_eq c).trans (by revert c; decide)
theorem off10_at : k0_off10 c = ![512 * (quart c true).val, 0] := (k0_off10_eq c).trans (by revert c; decide)

end Offsets

/-! ## Blocks -/

/-- A specified program at the end. -/
theorem wpc_last {c : Dev nD} {p : BodyP F PUnit} {P R : sProp 𝕄} {Q : PUnit → sProp 𝕄} (h : P ⊢ wpc c p fun _ => R) :
    P ⊢ iprop((R -∗ Q ⟨⟩) -∗ wpc c p Q) := by
  unfold wpc
  refine h.trans ((wp_wand frame _ Set.univ (Q' := Q)).trans ?_)
  iintro H Hk
  iapply H
  iintro %a Ha
  iapply Hk; iexact Ha

/-- The same, with an update after it. -/
theorem wpc_last_upd {c : Dev nD} {p : BodyP F PUnit} {P R : sProp 𝕄} {Q : PUnit → sProp 𝕄} (h : P ⊢ wpc c p fun _ => R) :
    P ⊢ iprop((R -∗ |={Set.univ}=> Q ⟨⟩) -∗ wpc c p Q) := by
  refine (wpc_last (Q := fun a => iprop(|={Set.univ}=> Q a)) h).trans ?_
  iintro H Hk
  iapply (wp_fupd frame _ Set.univ p Q)
  iapply H; iexact Hk

theorem aC_credit : ∀ (s : Bool) (k : Fin 4), (aC s k).view.dmaCredit = N := by
  intro s k; cases s <;> rfl
theorem bC_credit : ∀ (s : Bool) (k : Fin 4), (bC s k).view.dmaCredit = N := by
  intro s k; cases s <;> rfl

section Blocks
variable (c : Dev nD) (s : Bool) (k : Fin 4)

/-- The payloads of a key, phase by phase. -/
theorem recvPay_0 : recvPay m ρ c (0, s, k) = iprop(aOwn c s k (chunk (xo m ρ (peer1 s c)) (mine c s k))
    ∗ oOwn (peer1 s c) (mine c s k) (chunk (xo m ρ (peer1 s c)) (mine c s k))) := rfl
theorem recvPay_1 : recvPay m ρ c (1, s, k) = bOwn c s k (chunk (sum1 m ρ s (peer2 s c)) (mine c s k)) := rfl
theorem recvPay_2 : recvPay m ρ c (2, s, k) = oOwn c (theirs c s k) (chunk (sum2 m ρ s (peer1 s c)) (theirs c s k)) := rfl
theorem sendPay_0 : sendPay m ρ c (0, s, k) = iprop(emp) := rfl
theorem sendPay_1 : sendPay m ρ c (1, s, k) = oOwn c (mine c s k) (chunk (sum1 m ρ s c) (mine c s k)) := rfl
theorem sendPay_2 : sendPay m ρ c (2, s, k) = oOwn c (mine c s k) (chunk (sum2 m ρ s c) (mine c s k)) := rfl

/-- What the first exchange takes for a chunk, and what it gives; -/
def pre1 : sProp 𝕄 :=
  iprop((∃ X, oOwn c (theirs c s k) X) ∗ (∃ X, aOwn (peer1 s c) s k X) ∗ toks c (0, s, k))
def post1 : sProp 𝕄 := cred (tallyAt (sendCell c (0, s, k)) () N)

/-- the second exchange; -/
def pre2 : sProp 𝕄 :=
  iprop((cred (tallyAt (recvCell c (0, s, k)) () N) ∗ atPos ER (recvCell c (0, s, k)) 0 ∅ 0)
    ∗ oOwn c (mine c s k) (chunk (xo m ρ c) (mine c s k)) ∗ (∃ X, bOwn (peer2 s c) s k X) ∗ toks c (1, s, k))
def post2 : sProp 𝕄 :=
  iprop(atPos ER (recvCell c (0, s, k)) 1 ∅ 0 ∗ (∃ X, aOwn c s k X) ∗ (∃ X, oOwn (peer1 s c) (mine c s k) X)
    ∗ cred (tallyAt (sendCell c (1, s, k)) () N))

/-- the third exchange; -/
def pre3 : sProp 𝕄 :=
  iprop((cred (tallyAt (sendCell c (1, s, k)) () N) ∗ atPos ER (sendCell c (1, s, k)) 0 ∅ 0)
    ∗ (cred (tallyAt (recvCell c (1, s, k)) () N) ∗ atPos ER (recvCell c (1, s, k)) 0 ∅ 0)
    ∗ (∃ X, oOwn (peer1 s c) (mine c s k) X) ∗ toks c (2, s, k))
def post3 : sProp 𝕄 :=
  iprop(atPos ER (sendCell c (1, s, k)) 1 ∅ 0 ∗ atPos ER (recvCell c (1, s, k)) 1 ∅ 0 ∗ (∃ X, bOwn c s k X)
    ∗ cred (tallyAt (sendCell c (2, s, k)) () N))

variable (l : List Key)

theorem blk1_gen {ox hx o h hp o' h' hw dev hv hsc} (hox : ox = ![0, 0, 128 * (theirs c s k).val, 0]) (ho : o = ![128 * (theirs c s k).val, 0])
    (ho' : o' = ![128 * (theirs c s k).val, 0]) (hdev : dev = dest c (0, s, k)) :
    iprop(records m ρ K ∗ pre1 c s k ∗ ownsTc c xM fullShare (xstg m ρ c) ∗ owing c ((0, s, k) :: l))
      ⊢ wpc c (copyRows ox hx o h hp >>= fun _ => sendRows o' h' hw dev (aC s k) hv hsc (0, s, k))
        fun _ => iprop(post1 c s k ∗ ownsTc c xM fullShare (xstg m ρ c) ∗ owing c l) := by
  unfold pre1 post1
  iintro ⟨#HR, ⟨⟨%X, Ho⟩, ⟨%Y, Ha⟩, Ht⟩, Hx, HO⟩
  iapply (wpc_then (copyRows_spec m ρ c (theirs c s k) hox ho X)) $$ [Hx Ho]
  · isplitl [Hx] <;> iassumption
  iintro ⟨Hx, Ho⟩
  iapply (wpc_last (sendRows_spec' m ρ K c (0, s, k) (theirs c s k) ho' hdev (aC_credit s k) (chunk (xo m ρ c) (theirs c s k)) Y l
    (by exact BI.Entails.refl _)
    (by
      show _ ⊢ iprop(aOwn (peer1 s c) s k (chunk (xo m ρ (peer1 s (peer1 s c))) (theirs c s k))
        ∗ oOwn (peer1 s (peer1 s c)) (theirs c s k) (chunk (xo m ρ (peer1 s (peer1 s c))) (theirs c s k)))
      rw [peer1_peer1]; exact BI.Entails.refl _))) $$ [Ho Ha Ht HO]
  · isplitr; · iexact HR
    isplitl [Ho]; · iexact Ho
    isplitl [Ha]; · iexact Ha
    isplitl [Ht] <;> iassumption
  iintro ⟨Hc, HO⟩
  isplitl [Hc]; · iexact Hc
  isplitl [Hx] <;> iassumption

theorem blk1_spec :
    iprop(records m ρ K ∗ pre1 c s k ∗ ownsTc c xM fullShare (xstg m ρ c) ∗ owing c ((0, s, k) :: l))
      ⊢ wpc c (blk1 c s k) fun _ => iprop(post1 c s k ∗ ownsTc c xM fullShare (xstg m ρ c) ∗ owing c l) := by
  cases s
  · exact blk1_gen m ρ K c false k l (off1_at c k) (off2_at c k) (off3_at c k) (peerX_eq c)
  · exact blk1_gen m ρ K c true k l (off4_at c k) (off5_at c k) (off6_at c k) (peerY_eq c)

/-- The copy of the device's own quarter of a stream. -/
theorem fill_spec (X : Vec F S512x1024 .bf16) :
    iprop(ownsTc c xM fullShare (xstg m ρ c) ∗ ownsTc c (oQ (quart c s)) fullShare X)
      ⊢ wpc c (fill c s) fun _ => iprop(ownsTc c xM fullShare (xstg m ρ c) ∗ ownsTc c (oQ (quart c s)) fullShare (quarter (xo m ρ c) (quart c s))) := by
  cases s
  · exact copyQuarter_spec m ρ c (quart c false) (off7_at c) (off8_at c) (hp := k0_off8_packedbf16 c) X
  · exact copyQuarter_spec m ρ c (quart c true) (off9_at c) (off10_at c) (hp := k0_off10_packedbf16 c) X

/-- A landed chunk added to the device's own. -/
theorem addBlk_spec (b : Memref sig .tc .vmem S512x1024 .bf16) (X Y : Vec F S128x1024 .bf16) :
    iprop(oOwn c (mine c s k) X ∗ ownsTc c (b.slice (lR k) (fun _ => rfl)) fullShare Y)
      ⊢ wpc c (addBlk c s b k) fun _ => iprop(oOwn c (mine c s k) (addf X Y) ∗ ownsTc c (b.slice (lR k) (fun _ => rfl)) fullShare Y) := by
  cases s
  · exact addRows_spec c _ (off11_at c k) (hp := k0_off11_packedbf16 c k) b k X Y
  · exact addRows_spec c _ (off13_at c k) (hp := k0_off13_packedbf16 c k) b k X Y

theorem send2_gen {o h hw dev hv hsc} (ho : o = ![128 * (mine c s k).val, 0]) (hdev : dev = dest c (1, s, k)) (Y : Vec F S128x1024 .bf16) :
    iprop(records m ρ K ∗ oOwn c (mine c s k) (chunk (sum1 m ρ s c) (mine c s k)) ∗ bOwn (peer2 s c) s k Y ∗ toks c (1, s, k) ∗ owing c ((1, s, k) :: l))
      ⊢ wpc c (sendRows o h hw dev (bC s k) hv hsc (1, s, k)) fun _ => iprop(cred (tallyAt (sendCell c (1, s, k)) () N) ∗ owing c l) :=
  sendRows_spec m ρ K c (1, s, k) (mine c s k) ho hdev (bC_credit s k) _ Y l (BI.Entails.refl _) (by
    show _ ⊢ bOwn (peer2 s c) s k (chunk (sum1 m ρ s (peer2 s (peer2 s c))) (mine (peer2 s c) s k))
    rw [peer2_peer2, mine_peer2]; exact BI.Entails.refl _)

theorem send2_spec (Y : Vec F S128x1024 .bf16) :
    iprop(records m ρ K ∗ oOwn c (mine c s k) (chunk (sum1 m ρ s c) (mine c s k)) ∗ bOwn (peer2 s c) s k Y ∗ toks c (1, s, k) ∗ owing c ((1, s, k) :: l))
      ⊢ wpc c (send2 c s k) fun _ => iprop(cred (tallyAt (sendCell c (1, s, k)) () N) ∗ owing c l) := by
  cases s
  · exact send2_gen m ρ K c false k l (hw := k0_off12_wordsbf16 c k) (off12_at c k) (peerY_eq c) Y
  · exact send2_gen m ρ K c true k l (hw := k0_off14_wordsbf16 c k) (off14_at c k) (peerX_eq c) Y

theorem send3_gen {o h hw dev hv hsc} (ho : o = ![128 * (mine c s k).val, 0]) (hdev : dev = dest c (2, s, k)) (Y : Vec F S128x1024 .bf16) :
    iprop(records m ρ K ∗ oOwn c (mine c s k) (chunk (sum2 m ρ s c) (mine c s k)) ∗ oOwn (peer1 s c) (mine c s k) Y ∗ toks c (2, s, k) ∗ owing c ((2, s, k) :: l))
      ⊢ wpc c (sendRows o h hw dev (oC o h) hv hsc (2, s, k)) fun _ => iprop(cred (tallyAt (sendCell c (2, s, k)) () N) ∗ owing c l) := by
  subst ho
  exact sendRows_spec m ρ K c (2, s, k) (mine c s k) rfl hdev (v := oB (mine c s k)) rfl (chunk (sum2 m ρ s c) (mine c s k)) Y l (BI.Entails.refl _) (by
    show _ ⊢ oOwn (peer1 s c) (theirs (peer1 s c) s k) (chunk (sum2 m ρ s (peer1 s (peer1 s c))) (theirs (peer1 s c) s k))
    rw [peer1_peer1, theirs_peer1]; exact BI.Entails.refl _)

theorem send3_spec (Y : Vec F S128x1024 .bf16) :
    iprop(records m ρ K ∗ oOwn c (mine c s k) (chunk (sum2 m ρ s c) (mine c s k)) ∗ oOwn (peer1 s c) (mine c s k) Y ∗ toks c (2, s, k) ∗ owing c ((2, s, k) :: l))
      ⊢ wpc c (send3 c s k) fun _ => iprop(cred (tallyAt (sendCell c (2, s, k)) () N) ∗ owing c l) := by
  cases s
  · exact send3_gen m ρ K c false k l (hw := k0_off12_wordsbf16 c k) (off12_at c k) (peerX_eq c) Y
  · exact send3_gen m ρ K c true k l (hw := k0_off14_wordsbf16 c k) (off14_at c k) (peerY_eq c) Y

theorem blk2_spec (hl : ∀ q ∈ l, 1 ≤ q.1.val) :
    iprop(records m ρ K ∗ pre2 m ρ c s k ∗ emp ∗ owing c ((1, s, k) :: l))
      ⊢ wpc c (blk2 c s k) fun _ => iprop(post2 c s k ∗ emp ∗ owing c l) := by
  unfold pre2 post2 blk2
  iintro ⟨#HR, ⟨⟨Hc, Hp⟩, Ho, ⟨%Y, Hb⟩, Ht⟩, -, HO⟩
  iapply (wpc_then (waitRecv_spec m ρ K c (0, s, k) (aRef s) (by cases s <;> rfl) ((1, s, k) :: l)
    (fun q hq => by exact (List.mem_cons.mp hq).elim (fun e => e ▸ Nat.one_pos) (hl q)))) $$ [Hc Hp HO]
  · isplitr; · iexact HR
    isplitl [Hc]; · iexact Hc
    isplitl [Hp] <;> iassumption
  iintro ⟨Hw, Hp, HO⟩
  ihave ⟨Ha, Hq⟩ := (Entails.of_eq (recvPay_0 m ρ c s k)) $$ Hw
  iapply (wpc_then (addBlk_spec c s k (aM s) (chunk (xo m ρ c) (mine c s k)) (chunk (xo m ρ (peer1 s c)) (mine c s k)))) $$ [Ho Ha]
  · isplitl [Ho] <;> iassumption
  iintro ⟨Ho, Ha⟩
  iapply (wpc_last (send2_spec m ρ K c s k l Y)) $$ [Ho Hb Ht HO]
  · isplitr; · iexact HR
    isplitl [Ho]; · iexact Ho
    isplitl [Hb]; · iexact Hb
    isplitl [Ht] <;> iassumption
  iintro ⟨Hc, HO⟩
  isplitr [HO]
  · isplitl [Hp]; · iexact Hp
    isplitl [Ha]; · iexists _; iexact Ha
    isplitl [Hq]; · iexists _; iexact Hq
    iexact Hc
  · isplitr; · iempintro
    iexact HO

theorem blk3_spec (hl : ∀ q ∈ l, 2 ≤ q.1.val) :
    iprop(records m ρ K ∗ pre3 c s k ∗ emp ∗ owing c ((2, s, k) :: l))
      ⊢ wpc c (blk3 c s k) fun _ => iprop(post3 c s k ∗ emp ∗ owing c l) := by
  unfold pre3 post3 blk3
  iintro ⟨#HR, ⟨⟨Hc, Hp⟩, ⟨Hc', Hp'⟩, ⟨%Y, Hq⟩, Ht⟩, -, HO⟩
  iapply (wpc_then (waitSend_spec m ρ K c (1, s, k) cc0_stg1_0 rfl ((2, s, k) :: l))) $$ [Hc Hp HO]
  · isplitr; · iexact HR
    isplitl [Hc]; · iexact Hc
    isplitl [Hp] <;> iassumption
  iintro ⟨Hw, Hp, HO⟩
  ihave Ho := (Entails.of_eq (sendPay_1 m ρ c s k)) $$ Hw
  iapply (wpc_then (waitRecv_spec m ρ K c (1, s, k) (bRef s) (by cases s <;> rfl) ((2, s, k) :: l)
    (fun q hq => by exact (List.mem_cons.mp hq).elim (fun e => e ▸ Nat.one_lt_two) (hl q)))) $$ [Hc' Hp' HO]
  · isplitr; · iexact HR
    isplitl [Hc']; · iexact Hc'
    isplitl [Hp'] <;> iassumption
  iintro ⟨Hw, Hp', HO⟩
  ihave Hb := (Entails.of_eq (recvPay_1 m ρ c s k)) $$ Hw
  iapply (wpc_then (addBlk_spec c s k (bM s) (chunk (sum1 m ρ s c) (mine c s k)) (chunk (sum1 m ρ s (peer2 s c)) (mine c s k)))) $$ [Ho Hb]
  · isplitl [Ho]; · iexact Ho
    iexact Hb
  iintro ⟨Ho, Hb⟩
  iapply (wpc_last (send3_spec m ρ K c s k l Y)) $$ [Ho Hq Ht HO]
  · isplitr; · iexact HR
    isplitl [Ho]; · iexact Ho
    isplitl [Hq]; · iexact Hq
    isplitl [Ht] <;> iassumption
  iintro ⟨Hc, HO⟩
  isplitr [HO]
  · isplitl [Hp]; · iexact Hp
    isplitl [Hp']; · iexact Hp'
    isplitl [Hb]; · iexists _; iexact Hb
    iexact Hc
  · isplitr; · iempintro
    iexact HO

/-- The wait for a chunk that the peer reduced. -/
theorem landed_spec :
    iprop(records m ρ K ∗ (cred (tallyAt (recvCell c (2, s, k)) () N) ∗ atPos ER (recvCell c (2, s, k)) 0 ∅ 0) ∗ emp ∗ owing c ([] ++ []))
      ⊢ wpc c (landed s k) fun _ => iprop((recvPay m ρ c (2, s, k) ∗ atPos ER (recvCell c (2, s, k)) 1 ∅ 0) ∗ emp ∗ owing c []) := by
  unfold landed
  iintro ⟨#HR, ⟨Hc, Hp⟩, -, HO⟩
  iapply (wpc_last (waitRecv_spec m ρ K c (2, s, k) cc0_stg1_0 rfl [] (fun q hq => absurd hq List.not_mem_nil))) $$ [Hc Hp HO]
  · isplitr; · iexact HR
    isplitl [Hc]; · iexact Hc
    isplitl [Hp]; · iexact Hp
    iexact HO
  iintro ⟨Ho, Hp, HO⟩
  isplitl [Ho Hp]
  · isplitl [Ho] <;> iassumption
  · isplitr; · iempintro
    iexact HO

/-- The wait for a send. -/
theorem sent_spec (p : Fin 3) :
    iprop(records m ρ K ∗ (cred (tallyAt (sendCell c (p, s, k)) () N) ∗ atPos ER (sendCell c (p, s, k)) 0 ∅ 0) ∗ emp ∗ owing c ([] ++ []))
      ⊢ wpc c (sent p s k) fun _ => iprop((sendPay m ρ c (p, s, k) ∗ atPos ER (sendCell c (p, s, k)) 1 ∅ 0) ∗ emp ∗ owing c []) := by
  unfold sent
  iintro ⟨#HR, ⟨Hc, Hp⟩, -, HO⟩
  iapply (wpc_last (waitSend_spec m ρ K c (p, s, k) cc0_stg1_0 rfl [])) $$ [Hc Hp HO]
  · isplitr; · iexact HR
    isplitl [Hc]; · iexact Hc
    isplitl [Hp]; · iexact Hp
    iexact HO
  iintro ⟨Ho, Hp, HO⟩
  isplitl [Ho Hp]
  · isplitl [Ho] <;> iassumption
  · isplitr; · iempintro
    iexact HO

end Blocks

/-! ## Runs of blocks -/

/-- Blocks run one after the other, each with its own part and the debts that it pays off. -/
theorem seqs_list {I : Type} (c : Dev nD) (C X : sProp 𝕄) [BI.Persistent C] (blk : I → BodyP F PUnit) (pre post : I → sProp 𝕄)
    (f : I → List Key) (P : Key → Prop) (rest : List Key) (hrest : ∀ q ∈ rest, P q)
    (h : ∀ i l', (∀ q ∈ l', P q) → iprop(C ∗ pre i ∗ X ∗ owing c (f i ++ l')) ⊢ wpc c (blk i) fun _ => iprop(post i ∗ X ∗ owing c l')) :
    ∀ l : List I, (∀ i ∈ l, ∀ q ∈ f i, P q) →
      iprop(C ∗ bigSepL l pre ∗ X ∗ owing c (l.flatMap f ++ rest))
        ⊢ wpc c (seqs (l.map blk)) fun _ => iprop(bigSepL l post ∗ X ∗ owing c rest)
  | [], _ => by
    unfold wpc
    rw [List.map_nil, seqs, Prog.pure_eq_ret, wp_ret, bigSepL_nil, bigSepL_nil]
    iintro ⟨-, He, HX, HO⟩
    imodintro
    isplitl [He]; · iexact He
    isplitl [HX]; · iexact HX
    iexact HO
  | i :: l, hl => by
    rw [List.map_cons, seqs, List.flatMap_cons, List.append_assoc, bigSepL_cons', bigSepL_cons']
    iintro ⟨#HC, ⟨Hi, Hl⟩, HX, HO⟩
    have hq : ∀ q ∈ l.flatMap f ++ rest, P q := fun q hq => (List.mem_append.mp hq).elim
      (fun h' => by obtain ⟨j, hj, hq⟩ := List.mem_flatMap.mp h'; exact hl j (List.mem_cons_of_mem _ hj) q hq) (hrest q)
    iapply (wpc_then (h i _ hq)) $$ [Hi HX HO]
    · isplitr; · iexact HC
      isplitl [Hi]; · iexact Hi
      isplitl [HX] <;> iassumption
    iintro ⟨Hi, HX, HO⟩
    iapply (wpc_last (seqs_list c C X blk pre post f P rest hrest h l fun j hj => hl j (List.mem_cons_of_mem _ hj))) $$ [Hl HX HO]
    · isplitr; · iexact HC
      isplitl [Hl]; · iexact Hl
      isplitl [HX] <;> iassumption
    iintro ⟨Hl, HX, HO⟩
    isplitl [Hi Hl]
    · isplitl [Hi] <;> iassumption
    isplitl [HX] <;> iassumption

/-- The same over every stream's every chunk, listed in some order. -/
theorem seqs_all (c : Dev nD) (C X : sProp 𝕄) [BI.Persistent C] (blk : Bool × Fin 4 → BodyP F PUnit) (pre post : Bool × Fin 4 → sProp 𝕄)
    (f : Bool × Fin 4 → List Key) (P : Key → Prop) (rest : List Key) (hrest : ∀ q ∈ rest, P q)
    (h : ∀ i l', (∀ q ∈ l', P q) → iprop(C ∗ pre i ∗ X ∗ owing c (f i ++ l')) ⊢ wpc c (blk i) fun _ => iprop(post i ∗ X ∗ owing c l'))
    (l : List (Bool × Fin 4)) (hn : l.Nodup) (hu : (Finset.univ : Finset (Bool × Fin 4)) = l.toFinset) (hl : ∀ i, ∀ q ∈ f i, P q) :
    iprop(C ∗ bigSep Finset.univ pre ∗ X ∗ owing c (l.flatMap f ++ rest))
      ⊢ wpc c (seqs (l.map blk)) fun _ => iprop(bigSep Finset.univ post ∗ X ∗ owing c rest) := by
  rw [bigSep_eq_bigSepL_of_eq l hu hn pre, bigSep_eq_bigSepL_of_eq l hu hn post]
  exact seqs_list c C X blk pre post f P rest hrest h l fun i _ => hl i

end Cert.AllReduce
end
-- ==== Proof.Split.lean ====
/-
# The buffers in pieces

The result's buffer is its sixteen chunks, eight that the device reduces and eight that its peers reduce. A landing
buffer is its four chunks.
-/
module

public import proofs.«01_k».proof.Proof.Blocks

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A rectangle cut into rectangles -/

section Cut

variable {nD' : Nat} {τ' : Topo} {sig' : RefSig} {Ix : Type} [DecidableEq Ix] {Val : EltTy → Type}
  {Name : Type} [DecidableEq Name] {U : Type} [URA U] {Lvl : Type}
variable {sp : CoreSpace} {sh : Shape} {e : EltTy}

/-- A rectangle of a memref is the rectangles that cut it, each at its part of the contents. -/
theorem slice_slices {T : Type} [Fintype T] [DecidableEq T] (c : Thread nD' τ') (b : Memref sig' c.2.kind sp sh e) (R : Rect sh) (hR : ∀ a, R.stride a = 1)
    (r : T → Rect sh) (hr : ∀ t a, (r t).stride a = 1) (hd : ∀ t t', t ≠ t' → Disjoint (r t).set (r t').set)
    (hcov : (Finset.univ : Finset T).biUnion (fun t => (r t).set) = R.set) (g : b.view.ty.Contents Val) :
    (owns c (b.slice R hR) fullShare (fun j => b.view.read Val g (R.emb j)) : sProp (MT nD' τ' sig' Ix Val Name U Lvl))
      = bigSep Finset.univ fun t => owns c (b.slice (r t) (hr t)) fullShare (fun j => b.view.read Val g ((r t).emb j)) := by
  have hs : (b.view.slice R).set = (Finset.univ : Finset T).biUnion fun t => (b.view.slice (r t)).set := by
    ext i
    rw [View.set_slice, ← hcov]
    simp only [Finset.mem_map, Finset.mem_biUnion, Finset.mem_univ, true_and, View.set_slice]
    exact ⟨fun ⟨j, ⟨t, ht⟩, h⟩ => ⟨t, j, ht, h⟩, fun ⟨t, j, ht, h⟩ => ⟨j, ⟨t, ht⟩, h⟩⟩
  rw [owns_slice_read c b fullShare R hR g, BI.bigSep_congr (fun t _ => owns_slice_read c b fullShare (r t) (hr t) g), hs]
  exact pointsTo_biUnion _ _ fun t _ t' _ h => by
    rw [View.set_slice, View.set_slice]; exact (Finset.disjoint_map _).mpr (hd t t' h)

end Cut

/-! ## Geometry -/

theorem mem_oR (b : Fin 16) (i : S2048x1024.Idx) : i ∈ (oR b).set ↔ 128 * b.val ≤ (i 0).val ∧ (i 0).val < 128 * b.val + 128 := by
  rw [Rect.mem_set_unit]
  refine ⟨fun h => h 0, fun h a => ?_⟩
  fin_cases a
  · exact h
  · exact ⟨Nat.zero_le _, (Nat.zero_add 1024).symm ▸ (i 1).isLt⟩

theorem mem_qR (u : Fin 4) (i : S2048x1024.Idx) : i ∈ (qR u).set ↔ 512 * u.val ≤ (i 0).val ∧ (i 0).val < 512 * u.val + 512 := by
  rw [Rect.mem_set_unit]
  refine ⟨fun h => h 0, fun h a => ?_⟩
  fin_cases a
  · exact h
  · exact ⟨Nat.zero_le _, (Nat.zero_add 1024).symm ▸ (i 1).isLt⟩

theorem mem_lR (k : Fin 4) (i : S512x1024.Idx) : i ∈ (lR k).set ↔ 128 * k.val ≤ (i 0).val ∧ (i 0).val < 128 * k.val + 128 := by
  rw [Rect.mem_set_unit]
  refine ⟨fun h => h 0, fun h a => ?_⟩
  fin_cases a
  · exact h
  · exact ⟨Nat.zero_le _, (Nat.zero_add 1024).symm ▸ (i 1).isLt⟩

theorem oR_disjoint (b b' : Fin 16) (h : b ≠ b') : Disjoint (oR b).set (oR b').set :=
  Finset.disjoint_left.mpr fun i hi hi' => h (Fin.ext (by rw [mem_oR] at hi hi'; omega))
theorem lR_disjoint (k k' : Fin 4) (h : k ≠ k') : Disjoint (lR k).set (lR k').set :=
  Finset.disjoint_left.mpr fun i hi hi' => h (Fin.ext (by rw [mem_lR] at hi hi'; omega))

theorem oR_cover : (Finset.univ : Finset (Fin 16)).biUnion (fun b => (oR b).set) = Finset.univ := by
  ext i
  simp only [Finset.mem_biUnion, Finset.mem_univ, true_and, iff_true]
  have hi : (i 0).val < 2048 := (i 0).isLt
  exact ⟨⟨(i 0).val / 128, by omega⟩, (mem_oR _ i).mpr ⟨by dsimp only; omega, by dsimp only; omega⟩⟩
theorem lR_cover : (Finset.univ : Finset (Fin 4)).biUnion (fun k => (lR k).set) = Finset.univ := by
  ext i
  simp only [Finset.mem_biUnion, Finset.mem_univ, true_and, iff_true]
  have hi : (i 0).val < 512 := (i 0).isLt
  exact ⟨⟨(i 0).val / 128, by omega⟩, (mem_lR _ i).mpr ⟨by dsimp only; omega, by dsimp only; omega⟩⟩

/-- Chunk `k` of quarter `u`. -/
def at_ (u k : Fin 4) : Fin 16 := ⟨4 * u.val + k.val, by omega⟩
theorem mine_at : ∀ (c : Dev nD) (s : Bool) (k : Fin 4), mine c s k = at_ (quart c s) k := by decide
theorem at_inj (u : Fin 4) {k k' : Fin 4} (h : k ≠ k') : at_ u k ≠ at_ u k' := fun e => h (Fin.ext (by
  have := congrArg Fin.val e; dsimp only [at_] at this; omega))

theorem qR_cover (u : Fin 4) : (Finset.univ : Finset (Fin 4)).biUnion (fun k => (oR (at_ u k)).set) = (qR u).set := by
  ext i
  simp only [Finset.mem_biUnion, Finset.mem_univ, true_and]
  rw [mem_qR]
  constructor
  · rintro ⟨k, hk⟩
    rw [mem_oR] at hk
    dsimp only [at_] at hk
    omega
  · intro h
    refine ⟨⟨(i 0).val / 128 - 4 * u.val, by omega⟩, ?_⟩
    rw [mem_oR]; dsimp only [at_]; omega

/-! ## The result's buffer -/

/-- The result's buffer at `g` is its chunks. -/
theorem whole_chunks (c : Dev nD) (g : Vec F S2048x1024 .bf16) :
    ((((c : Thread nD τ).loc cc0_stg1_0) ↦{fullShare} g : sProp 𝕄)) = bigSep Finset.univ fun b : Fin 16 => oOwn c b (chunk g b) := by
  have h := pointsTo_rects (Ix := Unit) (Name := ℕ) (U := UU) (Lvl := ℕ) (c : Thread nD τ) (oM : Memref sig .tc .vmem S2048x1024 .bf16) fullShare
    (fun b : Fin 16 => oR b) (fun _ _ => rfl) oR_disjoint oR_cover (Val := Elt F) g
  rw [show (View.set (Memref.view oM)) = Finset.univ from View.set_whole _] at h
  exact h

/-- A quarter of the result at `g` is its chunks. -/
theorem quarter_chunks (c : Dev nD) (u : Fin 4) (g : Vec F S2048x1024 .bf16) :
    (ownsTc c (oQ u) fullShare (quarter g u) : sProp 𝕄) = bigSep Finset.univ fun k : Fin 4 => oOwn c (at_ u k) (chunk g (at_ u k)) :=
  slice_slices (c : Thread nD τ) (oM : Memref sig .tc .vmem S2048x1024 .bf16) (qR u) (fun _ => rfl) (fun k => oR (at_ u k)) (fun _ _ => rfl)
    (fun _ _ h => oR_disjoint _ _ (at_inj u h)) (qR_cover u) g

/-- A device's chunks and its peers', sixteen together. -/
def part (c : Dev nD) (t : Bool × (Bool × Fin 4)) : Fin 16 := bif t.1 then mine c t.2.1 t.2.2 else theirs c t.2.1 t.2.2
theorem part_injective : ∀ c : Dev nD, Function.Injective (part c) := by decide
def partEquiv (c : Dev nD) : Bool × (Bool × Fin 4) ≃ Fin 16 :=
  Equiv.ofBijective (part c) ((Fintype.bijective_iff_injective_and_card _).mpr ⟨part_injective c, rfl⟩)

/-- A two-membered family. -/
theorem bigSep_bool (Φ : Bool → sProp 𝕄) : bigSep Finset.univ Φ = iprop(Φ true ∗ Φ false) := by
  rw [bigSep_univ_eq_bigSepL [true, false] (by decide) (by decide)]; rfl

/-- The result's buffer at `g`: the device's own chunks, and its peers'. -/
theorem whole_parts (c : Dev nD) (g : Vec F S2048x1024 .bf16) :
    ((((c : Thread nD τ).loc cc0_stg1_0) ↦{fullShare} g : sProp 𝕄))
      = iprop((bigSep Finset.univ fun t : Bool × Fin 4 => oOwn c (mine c t.1 t.2) (chunk g (mine c t.1 t.2)))
        ∗ bigSep Finset.univ fun t : Bool × Fin 4 => oOwn c (theirs c t.1 t.2) (chunk g (theirs c t.1 t.2))) := by
  rw [whole_chunks, bigSep_univ_equiv (partEquiv c) (fun b : Fin 16 => oOwn c b (chunk g b)),
    bigSep_univ_prod, bigSep_bool]
  rfl

/-- The device's own chunks are its two quarters. -/
theorem mine_quarters (c : Dev nD) (g : Vec F S2048x1024 .bf16) :
    (bigSep Finset.univ fun t : Bool × Fin 4 => (oOwn c (mine c t.1 t.2) (chunk g (mine c t.1 t.2)) : sProp 𝕄))
      = iprop(ownsTc c (oQ (quart c true)) fullShare (quarter g (quart c true)) ∗ ownsTc c (oQ (quart c false)) fullShare (quarter g (quart c false))) := by
  rw [bigSep_univ_prod, bigSep_bool, quarter_chunks, quarter_chunks]
  simp only [mine_at]

/-! ## A landing buffer -/

theorem elt_nonempty (e : EltTy) : Nonempty (Elt F e) := by
  cases e <;> first | exact ⟨(0 : BitVec _)⟩ | exact ⟨FloatOps.ofBits _ 0⟩

/-- A landing buffer is its chunks, whatever they hold; -/
theorem landing_split (c : Dev nD) (b : Memref sig .tc .vmem S512x1024 .bf16) (X : Vec F S512x1024 .bf16) :
    (ownsTc c b fullShare X : sProp 𝕄) ⊢ bigSep Finset.univ fun k : Fin 4 => iprop(∃ Y, ownsTc c (b.slice (lR k) (fun _ => rfl)) fullShare Y) :=
  (owns_rects (c : Thread nD τ) b fullShare (fun k => lR k) (fun _ _ => rfl) lR_disjoint lR_cover X).trans
    (bigSep_mono fun k _ => by
      show (ownsTc c (b.slice (lR k) (fun _ => rfl)) fullShare (fun j => X ((lR k).emb j)) : sProp 𝕄) ⊢ iprop(∃ Y, ownsTc c (b.slice (lR k) (fun _ => rfl)) fullShare Y)
      iintro H; iexists _; iexact H)

/-- and its chunks are the buffer. -/
theorem landing_join (c : Dev nD) (b : Memref sig .tc .vmem S512x1024 .bf16) :
    (bigSep Finset.univ fun k : Fin 4 => iprop(∃ Y, ownsTc c (b.slice (lR k) (fun _ => rfl)) fullShare Y) : sProp 𝕄)
      ⊢ iprop(∃ X, ownsTc c b fullShare X) := by
  haveI : ∀ e, Nonempty (Elt F e) := elt_nonempty
  refine (BI.bigSep_exists_pi Finset.univ fun (k : Fin 4) (Y : Vec F S128x1024 .bf16) =>
    ownsTc c (b.slice (lR k) (fun _ => rfl)) fullShare Y).trans ?_
  iintro ⟨%Y, H⟩
  iexists (Rect.glue (fun k : Fin 4 => lR k) lR_cover Y)
  iapply (owns_of_rects (c : Thread nD τ) b fullShare (fun k => lR k) (fun _ _ => rfl) lR_disjoint lR_cover _)
  have e : (fun (k : Fin 4) (j : S128x1024.Idx) => Rect.glue (fun k : Fin 4 => lR k) lR_cover Y ((lR k).emb j)) = Y :=
    funext fun k => funext fun j => Rect.glue_emb (fun k : Fin 4 => lR k) lR_cover lR_disjoint Y k j
  iapply (Entails.of_eq (congrArg (fun Z : (k : Fin 4) → Vec F S128x1024 .bf16 =>
    bigSep Finset.univ fun k : Fin 4 => (ownsTc c (b.slice (lR k) (fun _ => rfl)) fullShare (Z k) : sProp 𝕄)) e.symm))
  iexact H

end Cert.AllReduce
end
-- ==== Proof.Exec.lean ====
/-
# A device's run of the body

The blocks one after the other: what a device holds when its body starts, and what it holds when the body is done.
-/
module

public import proofs.«01_k».proof.Proof.Split

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the streams' chunks, the keys, the cells -/

theorem sep_swap (X Y : sProp 𝕄) : iprop(X ∗ Y) = iprop(Y ∗ X) := BI.Entails.antisymm BI.sep_comm BI.sep_comm

/-- One assertion for each chunk of each stream. -/
abbrev fam (Φ : Bool → Fin 4 → sProp 𝕄) : sProp 𝕄 := bigSep Finset.univ fun t : Bool × Fin 4 => Φ t.1 t.2

theorem fam_sep (Φ Ψ : Bool → Fin 4 → sProp 𝕄) : fam (fun s k => iprop(Φ s k ∗ Ψ s k)) = iprop(fam Φ ∗ fam Ψ) := bigSep_sep' _ _ _

/-- A family by streams. -/
theorem fam_bool (Φ : Bool → Fin 4 → sProp 𝕄) :
    fam Φ = iprop((bigSep Finset.univ fun k => Φ true k) ∗ bigSep Finset.univ fun k => Φ false k) := by
  unfold fam; rw [bigSep_univ_prod, bigSep_bool]

/-- A family over the keys, phase by phase. -/
theorem bigSep_key (Φ : Key → sProp 𝕄) :
    bigSep Finset.univ Φ = iprop(fam (fun s k => Φ (0, s, k)) ∗ fam (fun s k => Φ (1, s, k)) ∗ fam fun s k => Φ (2, s, k)) := by
  rw [bigSep_univ_prod, bigSep_univ_eq_bigSepL [0, 1, 2] (by decide) (by decide)]; rfl

/-- A family with one member more. -/
theorem bigSep_option {I : Type} [Fintype I] [DecidableEq I] (Φ : Option I → sProp 𝕄) :
    bigSep Finset.univ Φ = iprop(Φ none ∗ bigSep Finset.univ fun i : I => Φ (some i)) := by
  have hn : none ∉ (Finset.univ : Finset I).map Function.Embedding.some := by simp
  have hu : (Finset.univ : Finset (Option I)) = insert none ((Finset.univ : Finset I).map Function.Embedding.some) := by
    ext x; cases x <;> simp
  rw [hu, BI.bigSep_insert hn, bigSep_map]; rfl

/-- A family over a device's cells: the barrier's, the send semaphores', the receive semaphores'. -/
theorem bigSep_ci (Φ : Ci → sProp 𝕄) :
    bigSep Finset.univ Φ = iprop(Φ none ∗ (bigSep Finset.univ fun q : Key => Φ (some (false, q))) ∗ bigSep Finset.univ fun q : Key => Φ (some (true, q))) := by
  rw [bigSep_option, bigSep_univ_prod, bigSep_bool]
  exact congrArg (fun X => iprop(Φ none ∗ X)) (sep_swap _ _)

variable (m : (ℓ : Loc nD τ sig) → Buf (Elt F) ℓ) (ρ : Dev nD → PrngReg) (K : Dev nD × Ci → ℕ)

/-! ## The barrier -/

/-- A device's barrier signal: the landing buffers that the signalled device sends into go over. -/
theorem signal_spec (c : Dev nD) (d : Bool) (dev : Dev nD) (hdev : dev = peer1 d c) (O : CellTallies nD τ sig Unit) (W : Waits sig Unit) :
    iprop(records m ρ K ∗ owes (c : Thread nD τ) (O + tallyAt (barCell (peer1 d c)) () 1) W ∗ dutyTok ER (barCell (peer1 d c)) 0 d
        ∗ (bigSep Finset.univ fun k : Fin 4 => iprop(∃ X, aOwn c d k X)) ∗ bigSep Finset.univ fun k : Fin 4 => iprop(∃ X, bOwn c (!d) k X))
      ⊢ wpc c (semSignalWord dev barS 1#32) fun _ => owes (c : Thread nD τ) O W := by
  subst hdev
  simp only [semSignalWord, Prog.lift, Prog.bind_op, Prog.bind_ret, Prog.pure_eq_ret]
  iintro ⟨#HR, HO, Ht, Ha, Hb⟩
  iapply (Rounds.wp_signal 𝒱₀ ER (sched m ρ) (c : Thread nD τ) none (dst := ((peer1 d c : Dev nD) : Thread nD τ)) (κ := K (peer1 d c, none))
      (d := d) (by rw [duties_bar]; exact Finset.mem_univ _) (show (sched m ρ).amount (barCell (peer1 d c)) 0 d = _ from rfl) () O rfl)
    $$ [HO Ht Ha Hb]
  · isplitr; · iapply (inv_of m ρ K (peer1 d c, none)); iexact HR
    isplitl [HO]; · iexact HO
    isplitl [Ht]; · iexact Ht
    isplitl [Ha Hb]
    · rw [payload_bar]; unfold barPay; rw [peer1_peer1]
      isplitl [Ha] <;> iassumption
    · iapply (reached_of m ρ K (peer1 d c, none)); iexact HR
  iintro HO
  rw [wp_ret]; imodintro; iexact HO

/-- What the two barrier signals a device waits for bring: the chunks at its peers that it will send into. -/
theorem barPay_both (c : Dev nD) :
    (bigSep Finset.univ fun d => barPay (F := F) c d)
      = iprop(fam (fun s k => iprop(∃ X, aOwn (peer1 s c) s k X)) ∗ fam fun s k => iprop(∃ X, bOwn (peer2 s c) s k X)) := by
  unfold barPay
  rw [bigSep_sep', fam_bool, fam_bool, bigSep_bool, bigSep_bool]
  exact congrArg₂ (fun X Y : sProp 𝕄 => iprop(X ∗ Y)) rfl (sep_swap (F := F) _ _)

/-- The wait for both signals. -/
theorem barrier_spec (c : Dev nD) (W : Waits sig Unit) :
    iprop(records m ρ K ∗ cred (tallyAt (barCell c) () 2) ∗ atPos ER (barCell c) 0 ∅ 0 ∗ owes (c : Thread nD τ) (due c allKeys) W)
      ⊢ wpc c (semWaitWord barS 2#32) fun _ => iprop((fam (fun s k => iprop(∃ X, aOwn (peer1 s c) s k X)) ∗ fam fun s k => iprop(∃ X, bOwn (peer2 s c) s k X))
          ∗ atPos ER (barCell c) 1 ∅ 0 ∗ owing c allKeys) := by
  simp only [semWaitWord, Prog.lift, Prog.bind_op, Prog.bind_ret, Prog.pure_eq_ret]
  iintro ⟨#HR, Hc, Ha, HO⟩
  iapply (Rounds.wp_wait_rest_token 𝒱₀ ER (sched m ρ) (c : Thread nD τ) none (κ := K (c, none))
      (wpE_semWait_eq 𝒱₀ (c : Thread nD τ) none Set.univ) (Set.mem_univ _) () (O := due c allKeys) (W := W) (R := 0) (m := 0) (T := ∅)
      (by rw [expect_bar]; decide)) $$ [Hc HO Ha]
  · isplitr; · iapply (inv_of m ρ K (c, none)); iexact HR
    isplitl [Hc]; · iexact Hc
    isplitl [HO]; · iexact HO
    isplitr
    · iapply (mayWait_due c (.reg barS) allKeys fun q' _ => by show 1 < _; omega)
      iapply (lev_of m ρ K); iexact HR
    iexact Ha
  iintro ⟨HO, Ha, -, Hp⟩
  ihave Hp := (Entails.of_eq ((rest_bar m ρ c).trans (barPay_both c))) $$ Hp
  rw [wp_ret]; imodintro
  isplitl [Hp]; · iexact Hp
  isplitl [Ha]; · iexact Ha
  unfold owing; iexists _; iexact HO

/-! ## The phases -/

section Phases
variable (c : Dev nD)

theorem turns_nodup : turns.Nodup := by decide
theorem turns_univ : (Finset.univ : Finset (Bool × Fin 4)) = turns.toFinset := by decide
theorem rows_nodup : rows.Nodup := by decide
theorem rows_univ : (Finset.univ : Finset (Bool × Fin 4)) = rows.toFinset := by decide

theorem keys_phase (p : Fin 3) : ∀ l : List (Bool × Fin 4), keys p l = l.flatMap fun t => [(p, t.1, t.2)]
  | [] => rfl
  | t :: l => congrArg (List.cons (p, t)) (keys_phase p l)
theorem keys_none (l : List (Bool × Fin 4)) : l.flatMap (fun _ => ([] : List Key)) ++ [] = [] := by
  induction l with
  | nil => rfl
  | cons t l ih => exact ih
theorem phase_of_mem {p : Fin 3} {l : List (Bool × Fin 4)} {q : Key} (h : q ∈ keys p l) : q.1 = p := by
  obtain ⟨t, -, rfl⟩ := List.mem_map.mp h; rfl

/-- The first exchange's sends. -/
theorem phase1_spec :
    iprop(records m ρ K ∗ fam (pre1 (F := F) c) ∗ ownsTc c xM fullShare (xstg m ρ c) ∗ owing c allKeys)
      ⊢ wpc c (seqs (turns.map fun t => blk1 c t.1 t.2)) fun _ =>
        iprop(fam (post1 c) ∗ ownsTc c xM fullShare (xstg m ρ c) ∗ owing c (keys 1 turns ++ keys 2 turns)) := by
  unfold allKeys; rw [keys_phase 0]
  exact seqs_all c (records m ρ K) _ (fun t => blk1 c t.1 t.2) (fun t => pre1 c t.1 t.2) (fun t => post1 c t.1 t.2) (fun t => [(0, t.1, t.2)]) (fun _ => True)
    (keys 1 turns ++ keys 2 turns) (fun _ _ => trivial) (fun t l' _ => blk1_spec m ρ K c t.1 t.2 l') turns turns_nodup turns_univ fun _ _ _ => trivial

/-- The first exchange's landings and the second's sends. -/
theorem phase2_spec :
    iprop(records m ρ K ∗ fam (pre2 m ρ c) ∗ emp ∗ owing c (keys 1 turns ++ keys 2 turns))
      ⊢ wpc c (seqs (turns.map fun t => blk2 c t.1 t.2)) fun _ => iprop(fam (post2 c) ∗ emp ∗ owing c (keys 2 turns)) := by
  rw [keys_phase 1]
  exact seqs_all c (records m ρ K) _ (fun t => blk2 c t.1 t.2) (fun t => pre2 m ρ c t.1 t.2) (fun t => post2 c t.1 t.2) (fun t => [(1, t.1, t.2)])
    (fun q => 1 ≤ q.1.val) (keys 2 turns) (fun q hq => by rw [phase_of_mem hq]; decide)
    (fun t l' hl => blk2_spec m ρ K c t.1 t.2 l' hl) turns turns_nodup turns_univ fun t q hq => by
      rw [List.mem_singleton.mp hq]; exact le_refl 1

/-- The second exchange's landings and the third's sends. -/
theorem phase3_spec :
    iprop(records m ρ K ∗ fam (pre3 c) ∗ emp ∗ owing c (keys 2 turns))
      ⊢ wpc c (seqs (turns.map fun t => blk3 c t.1 t.2)) fun _ => iprop(fam (post3 c) ∗ emp ∗ owing c []) := by
  rw [keys_phase 2, ← List.append_nil (turns.flatMap _)]
  exact seqs_all c (records m ρ K) _ (fun t => blk3 c t.1 t.2) (fun t => pre3 c t.1 t.2) (fun t => post3 c t.1 t.2) (fun t => [(2, t.1, t.2)])
    (fun q => 2 ≤ q.1.val) [] (fun q hq => by cases hq)
    (fun t l' hl => blk3_spec m ρ K c t.1 t.2 l' hl) turns turns_nodup turns_univ fun t q hq => by
      rw [List.mem_singleton.mp hq]; exact le_refl 2

/-- The third exchange's landings. -/
theorem landings_spec :
    iprop(records m ρ K ∗ fam (fun s k => iprop(cred (tallyAt (recvCell c (2, s, k)) () N) ∗ atPos ER (recvCell c (2, s, k)) 0 ∅ 0)) ∗ emp ∗ owing c [])
      ⊢ wpc c (seqs (turns.map fun t => landed t.1 t.2)) fun _ =>
        iprop(fam (fun s k => iprop(recvPay m ρ c (2, s, k) ∗ atPos ER (recvCell c (2, s, k)) 1 ∅ 0)) ∗ emp ∗ owing c []) := by
  have h := seqs_all c (records m ρ K) iprop(emp) (fun t => landed t.1 t.2)
    (fun t => iprop(cred (tallyAt (recvCell c (2, t.1, t.2)) () N) ∗ atPos ER (recvCell c (2, t.1, t.2)) 0 ∅ 0))
    (fun t => iprop(recvPay m ρ c (2, t.1, t.2) ∗ atPos ER (recvCell c (2, t.1, t.2)) 1 ∅ 0)) (fun _ => []) (fun _ => False) [] (fun q hq => by cases hq)
    (fun t l' hl => by
      obtain rfl : l' = [] := List.eq_nil_iff_forall_not_mem.mpr hl
      exact landed_spec m ρ K c t.1 t.2) turns turns_nodup turns_univ fun t q hq => by cases hq
  rw [keys_none] at h; exact h

/-- A phase's sends, waited for. -/
theorem sents_spec (p : Fin 3) :
    iprop(records m ρ K ∗ fam (fun s k => iprop(cred (tallyAt (sendCell c (p, s, k)) () N) ∗ atPos ER (sendCell c (p, s, k)) 0 ∅ 0)) ∗ emp ∗ owing c [])
      ⊢ wpc c (seqs (rows.map fun t => sent p t.1 t.2)) fun _ =>
        iprop(fam (fun s k => iprop(sendPay m ρ c (p, s, k) ∗ atPos ER (sendCell c (p, s, k)) 1 ∅ 0)) ∗ emp ∗ owing c []) := by
  have h := seqs_all c (records m ρ K) iprop(emp) (fun t => sent p t.1 t.2)
    (fun t => iprop(cred (tallyAt (sendCell c (p, t.1, t.2)) () N) ∗ atPos ER (sendCell c (p, t.1, t.2)) 0 ∅ 0))
    (fun t => iprop(sendPay m ρ c (p, t.1, t.2) ∗ atPos ER (sendCell c (p, t.1, t.2)) 1 ∅ 0)) (fun _ => []) (fun _ => False) [] (fun q hq => by cases hq)
    (fun t l' hl => by
      obtain rfl : l' = [] := List.eq_nil_iff_forall_not_mem.mpr hl
      exact sent_spec m ρ K c t.1 t.2 p) rows rows_nodup rows_univ fun t q hq => by cases hq
  rw [keys_none] at h; exact h

end Phases

/-! ## The result -/

/-- The stream of a row of the result. -/
def half (i : S2048x1024.Idx) : Bool := decide (1024 ≤ (i 0).val)

/-- A device's result: each chunk as the device that reduced it left it. -/
def total (c : Dev nD) : Vec F S2048x1024 .bf16 := fun i =>
  sum2 m ρ (half i) (if (quart c (half i)).val = (i 0).val / 512 then c else peer1 (half i) c) i

theorem emb_row (b : Fin 16) (j : S128x1024.Idx) : ((oR b).emb j 0).val = 128 * b.val + (j 0).val := by
  show 128 * b.val + 1 * (j 0).val = _; rw [Nat.one_mul]

theorem mine_half : ∀ (c : Dev nD) (s : Bool) (k : Fin 4), decide (8 ≤ (mine c s k).val) = s ∧ (mine c s k).val / 4 = (quart c s).val := by decide
theorem quart_peer1 : ∀ (c : Dev nD) (s : Bool), (quart c s).val ≠ (quart (peer1 s c) s).val := by decide

theorem half_row (b : Fin 16) (j : S128x1024.Idx) : half ((oR b).emb j) = decide (8 ≤ b.val) ∧ ((oR b).emb j 0).val / 512 = b.val / 4 := by
  have hj : (j 0).val < 128 := (j 0).isLt
  unfold half
  rw [emb_row]
  exact ⟨decide_eq_decide.mpr (by omega), by omega⟩

theorem total_mine (c : Dev nD) (s : Bool) (k : Fin 4) : chunk (total m ρ c) (mine c s k) = chunk (sum2 m ρ s c) (mine c s k) := funext fun j => by
  obtain ⟨h1, h2⟩ := half_row (mine c s k) j
  obtain ⟨h3, h4⟩ := mine_half c s k
  unfold chunk total
  rw [h1, h3, h2, h4, if_pos rfl]

theorem total_theirs (c : Dev nD) (s : Bool) (k : Fin 4) : chunk (total m ρ c) (theirs c s k) = chunk (sum2 m ρ s (peer1 s c)) (theirs c s k) := funext fun j => by
  obtain ⟨h1, h2⟩ := half_row (theirs c s k) j
  obtain ⟨h3, h4⟩ := mine_half (peer1 s c) s k
  unfold chunk total
  rw [h1, h2]
  unfold theirs
  rw [h3, h4, if_neg (quart_peer1 c s)]

/-! ## The body -/

/-- What a device holds of the protocol when its body starts: where it stands at its cells, the credit for its waits, the
right to pay each of its duties; -/
def opening (c : Dev nD) : sProp 𝕄 :=
  iprop((bigSep Finset.univ fun k : Ci => atPos ER (kcell (c, k)) 0 ∅ 0)
    ∗ (cred (tallyAt (barCell c) () 2) ∗ bigSep Finset.univ fun q : Key => cred (tallyAt (recvCell c q) () N))
    ∗ (dutyTok ER (barCell (peer1 false c)) 0 false ∗ dutyTok ER (barCell (peer1 true c)) 0 true ∗ bigSep Finset.univ fun q : Key => toks c q))

/-- its landing buffers; -/
def landings (c : Dev nD) : sProp 𝕄 :=
  iprop(fam (fun s k => iprop(∃ X, aOwn c s k X)) ∗ fam fun s k => iprop(∃ X, bOwn c s k X))

/-- where it stands when the body is done. -/
def closing (c : Dev nD) : sProp 𝕄 := bigSep Finset.univ fun k : Ci => atPos ER (kcell (c, k)) 1 ∅ 0

theorem pre1_fam (c : Dev nD) : fam (pre1 (F := F) c)
    = iprop(fam (fun s k => iprop(∃ X, oOwn c (theirs c s k) X)) ∗ fam (fun s k => iprop(∃ X, aOwn (peer1 s c) s k X)) ∗ fam fun s k => toks c (0, s, k)) := by
  unfold pre1; rw [fam_sep, fam_sep]
theorem pre2_fam (c : Dev nD) : fam (pre2 m ρ c)
    = iprop((fam (fun s k => cred (tallyAt (recvCell c (0, s, k)) () N)) ∗ fam fun s k => atPos ER (recvCell c (0, s, k)) 0 ∅ 0)
      ∗ fam (fun s k => oOwn c (mine c s k) (chunk (xo m ρ c) (mine c s k))) ∗ fam (fun s k => iprop(∃ X, bOwn (peer2 s c) s k X)) ∗ fam fun s k => toks c (1, s, k)) := by
  unfold pre2; rw [fam_sep, fam_sep, fam_sep, fam_sep]
theorem post2_fam (c : Dev nD) : fam (post2 (F := F) c)
    = iprop(fam (fun s k => atPos ER (recvCell c (0, s, k)) 1 ∅ 0) ∗ fam (fun s k => iprop(∃ X, aOwn c s k X))
      ∗ fam (fun s k => iprop(∃ X, oOwn (peer1 s c) (mine c s k) X)) ∗ fam fun s k => cred (tallyAt (sendCell c (1, s, k)) () N)) := by
  unfold post2; rw [fam_sep, fam_sep, fam_sep]
theorem pre3_fam (c : Dev nD) : fam (pre3 (F := F) c)
    = iprop((fam (fun s k => cred (tallyAt (sendCell c (1, s, k)) () N)) ∗ fam fun s k => atPos ER (sendCell c (1, s, k)) 0 ∅ 0)
      ∗ (fam (fun s k => cred (tallyAt (recvCell c (1, s, k)) () N)) ∗ fam fun s k => atPos ER (recvCell c (1, s, k)) 0 ∅ 0)
      ∗ fam (fun s k => iprop(∃ X, oOwn (peer1 s c) (mine c s k) X)) ∗ fam fun s k => toks c (2, s, k)) := by
  unfold pre3; rw [fam_sep, fam_sep, fam_sep, fam_sep, fam_sep]
theorem post3_fam (c : Dev nD) : fam (post3 (F := F) c)
    = iprop(fam (fun s k => atPos ER (sendCell c (1, s, k)) 1 ∅ 0) ∗ fam (fun s k => atPos ER (recvCell c (1, s, k)) 1 ∅ 0)
      ∗ fam (fun s k => iprop(∃ X, bOwn c s k X)) ∗ fam fun s k => cred (tallyAt (sendCell c (2, s, k)) () N)) := by
  unfold post3; rw [fam_sep, fam_sep, fam_sep]

/-- The two barrier signals, each with its share of the landing buffers. -/
theorem signals_spec (c : Dev nD) (W : Waits sig Unit) (k : BodyP F PUnit) (Q : PUnit → sProp 𝕄) :
    iprop(records m ρ K ∗ owes (c : Thread nD τ) (O₀ c) W ∗ (dutyTok ER (barCell (peer1 false c)) 0 false ∗ dutyTok ER (barCell (peer1 true c)) 0 true) ∗ landings c)
      ⊢ iprop((owes (c : Thread nD τ) (due c allKeys) W -∗ wpc c k Q)
        -∗ wpc c (semSignalWord (peerX c) barS 1#32 >>= fun _ => semSignalWord (peerY c) barS 1#32 >>= fun _ => k) Q) := by
  unfold landings
  rw [fam_bool, fam_bool]
  have h0 : iprop(records m ρ K ∗ owes (c : Thread nD τ) (O₀ c) W ∗ dutyTok ER (barCell (peer1 false c)) 0 false
        ∗ (bigSep Finset.univ fun k : Fin 4 => iprop(∃ X, aOwn c false k X)) ∗ bigSep Finset.univ fun k : Fin 4 => iprop(∃ X, bOwn c true k X))
      ⊢ wpc c (semSignalWord (peerX c) barS 1#32) fun _ => owes (c : Thread nD τ) (due c allKeys + tallyAt (barCell (devY c)) () 1) W :=
    signal_spec m ρ K c false (peerX c) (peerX_eq c) _ W
  have h1 : iprop(records m ρ K ∗ owes (c : Thread nD τ) (due c allKeys + tallyAt (barCell (devY c)) () 1) W ∗ dutyTok ER (barCell (peer1 true c)) 0 true
        ∗ (bigSep Finset.univ fun k : Fin 4 => iprop(∃ X, aOwn c true k X)) ∗ bigSep Finset.univ fun k : Fin 4 => iprop(∃ X, bOwn c false k X))
      ⊢ wpc c (semSignalWord (peerY c) barS 1#32) fun _ => owes (c : Thread nD τ) (due c allKeys) W :=
    signal_spec m ρ K c true (peerY c) (peerY_eq c) _ W
  iintro ⟨#HR, HO, ⟨Ht0, Ht1⟩, ⟨Ha1, Ha0⟩, ⟨Hb1, Hb0⟩⟩ Hk
  iapply (wpc_then h0) $$ [HO Ht0 Ha0 Hb1]
  · isplitr; · iexact HR
    isplitl [HO]; · iexact HO
    isplitl [Ht0]; · iexact Ht0
    isplitl [Ha0] <;> iassumption
  iintro HO
  iapply (wpc_then h1) $$ [HO Ht1 Ha1 Hb0]
  · isplitr; · iexact HR
    isplitl [HO]; · iexact HO
    isplitl [Ht1]; · iexact Ht1
    isplitl [Ha1] <;> iassumption
  iexact Hk

/-- What a device's cells give it at its opening, phase by phase. -/
theorem opening_eq (c : Dev nD) : opening (F := F) c
    = iprop((atPos ER (barCell c) 0 ∅ 0
        ∗ (fam (fun s k => atPos ER (sendCell c (0, s, k)) 0 ∅ 0) ∗ fam (fun s k => atPos ER (sendCell c (1, s, k)) 0 ∅ 0) ∗ fam fun s k => atPos ER (sendCell c (2, s, k)) 0 ∅ 0)
        ∗ fam (fun s k => atPos ER (recvCell c (0, s, k)) 0 ∅ 0) ∗ fam (fun s k => atPos ER (recvCell c (1, s, k)) 0 ∅ 0) ∗ fam fun s k => atPos ER (recvCell c (2, s, k)) 0 ∅ 0)
      ∗ (cred (tallyAt (barCell c) () 2) ∗ fam (fun s k => cred (tallyAt (recvCell c (0, s, k)) () N)) ∗ fam (fun s k => cred (tallyAt (recvCell c (1, s, k)) () N))
        ∗ fam fun s k => cred (tallyAt (recvCell c (2, s, k)) () N))
      ∗ (dutyTok ER (barCell (peer1 false c)) 0 false ∗ dutyTok ER (barCell (peer1 true c)) 0 true
        ∗ fam (fun s k => toks c (0, s, k)) ∗ fam (fun s k => toks c (1, s, k)) ∗ fam fun s k => toks c (2, s, k))) := by
  unfold opening
  rw [bigSep_ci, bigSep_key, bigSep_key, bigSep_key, bigSep_key]
  rfl

theorem closing_eq (c : Dev nD) : closing (F := F) c
    = iprop(atPos ER (barCell c) 1 ∅ 0
        ∗ (fam (fun s k => atPos ER (sendCell c (0, s, k)) 1 ∅ 0) ∗ fam (fun s k => atPos ER (sendCell c (1, s, k)) 1 ∅ 0) ∗ fam fun s k => atPos ER (sendCell c (2, s, k)) 1 ∅ 0)
        ∗ fam (fun s k => atPos ER (recvCell c (0, s, k)) 1 ∅ 0) ∗ fam (fun s k => atPos ER (recvCell c (1, s, k)) 1 ∅ 0) ∗ fam fun s k => atPos ER (recvCell c (2, s, k)) 1 ∅ 0) := by
  unfold closing
  rw [bigSep_ci, bigSep_key, bigSep_key]
  rfl

/-- The result's chunks at the end are the result. -/
theorem result_whole (c : Dev nD) :
    iprop(fam (fun s k => sendPay m ρ c (2, s, k)) ∗ fam fun s k => recvPay m ρ c (2, s, k)) = ((((c : Thread nD τ).loc cc0_stg1_0) ↦{fullShare} total m ρ c : sProp 𝕄)) := by
  rw [whole_parts]
  unfold fam
  simp only [total_mine, total_theirs]
  rfl

theorem theirs_any (c : Dev nD) (g : Vec F S2048x1024 .bf16) :
    (bigSep Finset.univ fun t : Bool × Fin 4 => (oOwn c (theirs c t.1 t.2) (chunk g (theirs c t.1 t.2)) : sProp 𝕄)) ⊢ fam fun s k => iprop(∃ X, oOwn c (theirs c s k) X) :=
  bigSep_mono fun t _ => by
    show (oOwn c (theirs c t.1 t.2) (chunk g (theirs c t.1 t.2)) : sProp 𝕄) ⊢ iprop(∃ X, oOwn c (theirs c t.1 t.2) X)
    iintro H; iexists _; iexact H

/-- The body on a device: from its opening, its input, its landing buffers and its result's buffer at anything, to its input as it was
and its result's buffer at the result. -/
theorem bodyOn_spec (c : Dev nD) (W : Waits sig Unit) (g : Vec F S2048x1024 .bf16) :
    iprop(records m ρ K ∗ owes (c : Thread nD τ) (O₀ c) W ∗ opening c ∗ landings c ∗ ownsTc c xM fullShare (xstg m ρ c)
        ∗ (((c : Thread nD τ).loc cc0_stg1_0) ↦{fullShare} g))
      ⊢ wpc c (bodyOn c) fun _ => iprop(closing c ∗ landings c ∗ ownsTc c xM fullShare (xstg m ρ c)
        ∗ (((c : Thread nD τ).loc cc0_stg1_0) ↦{fullShare} total m ρ c) ∗ owing c []) := by
  rw [opening_eq, closing_eq, whole_parts, mine_quarters]
  unfold bodyOn
  iintro ⟨#HR, HO, ⟨⟨PB, ⟨PS0, PS1, PS2⟩, PR0, PR1, PR2⟩, ⟨CB, CR0, CR1, CR2⟩, TX, TY, T0, T1, T2⟩, HL, Hx, ⟨⟨HQ1, HQ0⟩, HT⟩⟩
  iapply (signals_spec m ρ K c W) $$ [HO TX TY HL]
  · isplitr; · iexact HR
    isplitl [HO]; · iexact HO
    isplitl [TX TY]
    · isplitl [TX] <;> iassumption
    iexact HL
  iintro HO
  iapply (wpc_then (barrier_spec m ρ K c W)) $$ [HO CB PB]
  · isplitr; · iexact HR
    isplitl [CB]; · iexact CB
    isplitl [PB] <;> iassumption
  iintro ⟨⟨HA, HB⟩, PB, HO⟩
  ihave HT := (theirs_any c g) $$ HT
  ihave H1 := (Entails.of_eq (pre1_fam c).symm) $$ [HT HA T0]
  · isplitl [HT]; · iexact HT
    isplitl [HA] <;> iassumption
  iapply (wpc_then (phase1_spec m ρ K c)) $$ [H1 Hx HO]
  · isplitr; · iexact HR
    isplitl [H1]; · iexact H1
    isplitl [Hx] <;> iassumption
  iintro ⟨CS0, Hx, HO⟩
  iapply (wpc_then (fill_spec m ρ c false _)) $$ [Hx HQ0]
  · isplitl [Hx] <;> iassumption
  iintro ⟨Hx, HQ0⟩
  iapply (wpc_then (fill_spec m ρ c true _)) $$ [Hx HQ1]
  · isplitl [Hx] <;> iassumption
  iintro ⟨Hx, HQ1⟩
  ihave HM := (Entails.of_eq (mine_quarters c (xo m ρ c)).symm) $$ [HQ1 HQ0]
  · isplitl [HQ1] <;> iassumption
  ihave H2 := (Entails.of_eq (pre2_fam m ρ c).symm) $$ [CR0 PR0 HM HB T1]
  · isplitl [CR0 PR0]
    · isplitl [CR0] <;> iassumption
    isplitl [HM]; · iexact HM
    isplitl [HB] <;> iassumption
  iapply (wpc_then (phase2_spec m ρ K c)) $$ [H2 HO]
  · isplitr; · iexact HR
    isplitl [H2]; · iexact H2
    isplitr; · iempintro
    iexact HO
  iintro ⟨H2, -, HO⟩
  ihave H2 := (Entails.of_eq (post2_fam c)) $$ H2
  icases H2 with ⟨PR0, HA, HP, CS1⟩
  ihave H3 := (Entails.of_eq (pre3_fam c).symm) $$ [CS1 PS1 CR1 PR1 HP T2]
  · isplitl [CS1 PS1]
    · isplitl [CS1] <;> iassumption
    isplitl [CR1 PR1]
    · isplitl [CR1] <;> iassumption
    isplitl [HP] <;> iassumption
  iapply (wpc_then (phase3_spec m ρ K c)) $$ [H3 HO]
  · isplitr; · iexact HR
    isplitl [H3]; · iexact H3
    isplitr; · iempintro
    iexact HO
  iintro ⟨H3, -, HO⟩
  ihave H3 := (Entails.of_eq (post3_fam c)) $$ H3
  icases H3 with ⟨PS1, PR1, HB, CS2⟩
  ihave H4 := (Entails.of_eq (fam_sep _ _).symm) $$ [CR2 PR2]
  · isplitl [CR2] <;> iassumption
  iapply (wpc_then (landings_spec m ρ K c)) $$ [H4 HO]
  · isplitr; · iexact HR
    isplitl [H4]; · iexact H4
    isplitr; · iempintro
    iexact HO
  iintro ⟨H4, -, HO⟩
  ihave H4 := (Entails.of_eq (fam_sep _ _)) $$ H4
  icases H4 with ⟨HT, PR2⟩
  unfold post1
  ihave H5 := (Entails.of_eq (fam_sep _ _).symm) $$ [CS0 PS0]
  · isplitl [CS0] <;> iassumption
  iapply (wpc_then (sents_spec m ρ K c 0)) $$ [H5 HO]
  · isplitr; · iexact HR
    isplitl [H5]; · iexact H5
    isplitr; · iempintro
    iexact HO
  iintro ⟨H5, -, HO⟩
  ihave H5 := (Entails.of_eq (fam_sep _ _)) $$ H5
  icases H5 with ⟨-, PS0⟩
  ihave H6 := (Entails.of_eq (fam_sep _ _).symm) $$ [CS2 PS2]
  · isplitl [CS2] <;> iassumption
  iapply (wpc_last (sents_spec m ρ K c 2)) $$ [H6 HO]
  · isplitr; · iexact HR
    isplitl [H6]; · iexact H6
    isplitr; · iempintro
    iexact HO
  iintro ⟨H6, -, HO⟩
  ihave H6 := (Entails.of_eq (fam_sep _ _)) $$ H6
  icases H6 with ⟨HM, PS2⟩
  isplitl [PB PS0 PS1 PS2 PR0 PR1 PR2]
  · isplitl [PB]; · iexact PB
    isplitl [PS0 PS1 PS2]
    · isplitl [PS0]; · iexact PS0
      isplitl [PS1] <;> iassumption
    isplitl [PR0]; · iexact PR0
    isplitl [PR1] <;> iassumption
  isplitl [HA HB]
  · unfold landings; isplitl [HA] <;> iassumption
  isplitl [Hx]; · iexact Hx
  isplitl [HM HT]
  · iapply (Entails.of_eq (result_whole m ρ c))
    isplitl [HM] <;> iassumption
  iexact HO

end Cert.AllReduce
end
-- ==== Proof.Deal.lean ====
/-
# Dealing out the launch

The protocol's cells and duties as they are minted, who is dealt what, and the credit each device starts with.
-/
module

public import proofs.«01_k».proof.Proof.Exec
public import Idealize.ShloMosaic.Lib.Pipeline.Launch
public import Idealize.ShloMosaic.Lib.Pipeline.Kit

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and duties -/

theorem csem_injective : Function.Injective csem := by decide

theorem kcell_injective : Function.Injective kcell := fun a b h =>
  Prod.ext (congrArg (fun g : GSem nD τ sig => g.1.1) h) (csem_injective (congrArg Prod.snd h))

/-- The cells of the protocol, all devices'. -/
def allCells : Finset (GSem nD τ sig) := Finset.univ.map ⟨kcell, kcell_injective⟩

/-- A device's duties: one for each of its cells, and a second for its barrier. -/
def duty (x : Dev nD × Option Ci) : GSem nD τ sig × ℕ × Bool :=
  match x.2 with
  | none => (barCell x.1, 0, true)
  | some k => (kcell (x.1, k), 0, false)

theorem duty_injective : Function.Injective duty := by
  rintro ⟨c, k⟩ ⟨c', k'⟩ h
  cases k with
  | none =>
    cases k' with
    | none => exact Prod.ext (congrArg (fun x : GSem nD τ sig × ℕ × Bool => x.1.1.1) h) rfl
    | some k' => exact (Bool.noConfusion (congrArg (fun x : GSem nD τ sig × ℕ × Bool => x.2.2) h : true = false))
  | some k =>
    cases k' with
    | none => exact (Bool.noConfusion (congrArg (fun x : GSem nD τ sig × ℕ × Bool => x.2.2) h : false = true))
    | some k' =>
      have e : (c, k) = (c', k') := kcell_injective (congrArg Prod.fst h)
      exact congrArg (fun x : Dev nD × Ci => (x.1, some x.2)) e

/-- The duties of the protocol, all devices'. -/
def allDuties : Finset (GSem nD τ sig × ℕ × Bool) := Finset.univ.map ⟨duty, duty_injective⟩

/-- The ghost state at launch. -/
def u₀ : UU := (initOf (Pipeline.cells cfgs cellOf_inj) (Pipeline.launchToks cfgs cellOf_inj), initOf allCells allDuties)

/-- The semaphores that the kernel allocates: the send and the receive semaphores. -/
def osem (x : Bool × Key) : SemLoc sig := csem (some x)

theorem ownSemFacts : Pipeline.OwnSemFacts cfg0.spec osem := by decide

theorem unscopedSems0_eq (c : Dev nD) : (unscopedSems0 c : sProp 𝕄) = semVal (barCell c) 0 := by
  unfold unscopedSems0
  rw [bigSep_eq_bigSepL_of_eq [SemLoc.reg barS] (by decide) (by decide)]; rfl

/-- The kernel's own semaphores and the barrier are the protocol's cells. -/
theorem cells_zero (c : Dev nD) :
    iprop(Pipeline.ownSems0 (Ix := Unit) (Name := ℕ) (U := UU) (Lvl := ℕ) (Val := Elt F) (τ := τ) osem c ∗ unscopedSems0 c)
      = (bigSep Finset.univ fun k : Ci => semVal (kcell (c, k)) 0 : sProp 𝕄) := by
  rw [unscopedSems0_eq, bigSep_option, sep_swap]; rfl

/-! ## Who gets what -/

/-- The right to pay a device's own cells' duties, as minted. -/
def minted (c : Dev nD) : sProp 𝕄 :=
  iprop(dutyTok ER (barCell c) 0 true ∗ dutyTok ER (barCell c) 0 false
    ∗ (bigSep Finset.univ fun q : Key => dutyTok ER (sendCell c q) 0 false) ∗ bigSep Finset.univ fun q : Key => dutyTok ER (recvCell c q) 0 false)

/-- The right to pay the duties that are a device's to pay. -/
def payer (c : Dev nD) : sProp 𝕄 :=
  iprop(dutyTok ER (barCell (peer1 false c)) 0 false ∗ dutyTok ER (barCell (peer1 true c)) 0 true ∗ bigSep Finset.univ fun q : Key => toks c q)

/-- A device and its peer across an axis, exchanged. -/
def acrossEquiv (d : Bool) : Dev nD ≃ Dev nD := ⟨peer1 d, peer1 d, peer1_peer1 d, peer1_peer1 d⟩
/-- A transfer's sender and its receiver, exchanged. -/
def destEquiv : Dev nD × Key ≃ Dev nD × Key :=
  ⟨fun x => (dest x.1 x.2, x.2), fun x => (dest x.1 x.2, x.2), fun x => Prod.ext (dest_dest x.1 x.2) rfl, fun x => Prod.ext (dest_dest x.1 x.2) rfl⟩

theorem minted_paid : (bigSep Finset.univ fun c : Dev nD => (minted c : sProp 𝕄)) = bigSep Finset.univ fun c : Dev nD => payer c := by
  have hr : (bigSep Finset.univ fun c : Dev nD => bigSep Finset.univ fun q : Key => (dutyTok ER (recvCell c q) 0 false : sProp 𝕄))
      = bigSep Finset.univ fun c : Dev nD => bigSep Finset.univ fun q : Key => dutyTok ER (recvCell (dest c q) q) 0 false := by
    rw [← bigSep_univ_prod (fun x : Dev nD × Key => (dutyTok ER (recvCell x.1 x.2) 0 false : sProp 𝕄)),
      bigSep_univ_equiv destEquiv, bigSep_univ_prod]
    rfl
  have hb : ∀ d d' : Bool, (bigSep Finset.univ fun c : Dev nD => (dutyTok ER (barCell c) 0 d' : sProp 𝕄))
      = bigSep Finset.univ fun c : Dev nD => dutyTok ER (barCell (peer1 d c)) 0 d' := fun d d' => by
    rw [bigSep_univ_equiv (acrossEquiv d)]; rfl
  unfold minted payer toks
  simp only [bigSep_sep']
  rw [hr, hb true true, hb false false]
  refine BI.Entails.antisymm (show _ ⊢ (_ : sProp 𝕄) from ?_) (show _ ⊢ (_ : sProp 𝕄) from ?_)
  · iintro ⟨H1, H2, H3, H4⟩
    isplitl [H2]; · iexact H2
    isplitl [H1]; · iexact H1
    isplitl [H3] <;> iassumption
  · iintro ⟨H2, H1, H3, H4⟩
    isplitl [H1]; · iexact H1
    isplitl [H2]; · iexact H2
    isplitl [H3] <;> iassumption

variable (m : (ℓ : Loc nD τ sig) → Buf (Elt F) ℓ) (ρ : Dev nD → PrngReg)

/-- What the minting deals a device; -/
def dealt (c : Dev nD) : sProp 𝕄 :=
  iprop((bigSep Finset.univ fun k : Ci => roundState ER (sched m ρ) (kcell (c, k)) 0)
    ∗ (bigSep Finset.univ fun k : Ci => iprop(atPos ER (kcell (c, k)) 0 ∅ 0 ∗ reached ER (kcell (c, k)) 0)) ∗ minted c)

/-- every cell's invariant, and the mark that its round is open; -/
def opened (K : Dev nD × Ci → ℕ) : sProp 𝕄 :=
  iprop((bigSep Finset.univ fun ck : Dev nD × Ci => cellInv ER (sched m ρ) (K ck) (kcell ck))
    ∗ bigSep Finset.univ fun ck : Dev nD × Ci => reached ER (kcell ck) 0)
instance opened_persistent (K : Dev nD × Ci → ℕ) : BI.Persistent (opened m ρ K) := by unfold opened; infer_instance

/-- what a device has of it once the cells are opened and the duties dealt to their payers. -/
def ready (c : Dev nD) : sProp 𝕄 :=
  iprop(∃ K, opened m ρ K ∗ (bigSep Finset.univ fun k : Ci => atPos ER (kcell (c, k)) 0 ∅ 0) ∗ payer c)

theorem mint : BI.own (ER (initOf allCells allDuties)) ⊢ (|==> bigSep Finset.univ (dealt m ρ) : sProp 𝕄) := by
  have hX (Φ : GSem nD τ sig → sProp 𝕄) : bigSep allCells Φ = bigSep Finset.univ fun c : Dev nD => bigSep Finset.univ fun k : Ci => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties
    rw [bigSep_map, bigSep_univ_prod]
    exact bigSep_congr fun c _ => by unfold minted; rw [bigSep_option, bigSep_ci]; rfl
  unfold dealt
  iintro HX
  imod (Rounds.fund ER (sched m ρ) allCells allDuties) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  simp only [bigSep_sep']
  isplitl [Hst]; · iexact Hst
  isplitl [Hat Hr]
  · isplitl [Hat] <;> iassumption
  iexact Htok

/-- A device's cells, opened. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Ci => iprop(∃ κ : ℕ, cellInv ER (sched m ρ) κ (kcell (c, k))))
          ∗ (bigSep Finset.univ fun k : Ci => iprop(atPos ER (kcell (c, k)) 0 ∅ 0 ∗ reached ER (kcell (c, k)) 0)) ∗ minted c) := by
  have h : iprop((bigSep Finset.univ fun k : Ci => semVal (kcell (c, k)) 0) ∗ bigSep Finset.univ fun k : Ci => roundState ER (sched m ρ) (kcell (c, k)) 0)
      ⊢ (|={Set.univ}=> bigSep Finset.univ fun k : Ci => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold dealt
  iintro ⟨Ho, Hu, Hst, Hrest⟩
  ihave Hz := (Entails.of_eq (cells_zero (F := F) c)) $$ [Ho Hu]
  · isplitl [Ho] <;> iassumption
  imod h $$ [Hz Hst] with HI
  · isplitl [Hz] <;> iassumption
  imodintro
  isplitl [HI] <;> iassumption

/-- A family, each of whose members uses a persistent assertion. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells opened, each device has what is its own. -/
theorem hand_out :
    (bigSep Finset.univ fun c : Dev nD => iprop((bigSep Finset.univ fun k : Ci => iprop(∃ κ : ℕ, cellInv ER (sched m ρ) κ (kcell (c, k))))
          ∗ (bigSep Finset.univ fun k : Ci => iprop(atPos ER (kcell (c, k)) 0 ∅ 0 ∗ reached ER (kcell (c, k)) 0)) ∗ minted c) : sProp 𝕄)
      ⊢ bigSep Finset.univ (ready m ρ) := by
  simp only [bigSep_sep']
  rw [← bigSep_univ_prod (fun ck : Dev nD × Ci => iprop(∃ κ : ℕ, cellInv ER (sched m ρ) κ (kcell ck))),
    ← bigSep_univ_prod (fun ck : Dev nD × Ci => (reached ER (kcell ck) 0 : sProp 𝕄)), minted_paid]
  iintro ⟨HI, ⟨Hat, #HR⟩, Ht⟩
  ihave HK := (BI.bigSep_exists_pi Finset.univ (fun (ck : Dev nD × Ci) (κ : ℕ) => (cellInv ER (sched m ρ) κ (kcell ck) : sProp 𝕄))) $$ HI
  icases HK with ⟨%K, #HI⟩
  iapply (bigSep_using (R := opened m ρ K)
    (Φ := fun c => iprop((bigSep Finset.univ fun k : Ci => atPos ER (kcell (c, k)) 0 ∅ 0) ∗ payer c)) fun c _ => by
      unfold ready
      iintro ⟨#H, Hc⟩
      iexists K
      isplitr; · iexact H
      iexact Hc)
  isplitr
  · unfold opened; isplitl; · iexact HI
    iexact HR
  iapply (Entails.of_eq (bigSep_sep' Finset.univ (fun c : Dev nD => bigSep Finset.univ fun k : Ci => (atPos ER (kcell (c, k)) 0 ∅ 0 : sProp 𝕄)) payer).symm)
  isplitl [Hat] <;> iassumption

theorem open_all : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => open_cells m ρ c).trans (bigSep_fupd _ _)).trans (BI.fupd_mono (hand_out m ρ))

/-! ## The credit at launch -/

/-- What a device's waits take. -/
def takes (c : Dev nD) : CellTallies nD τ sig Unit := tallyAt (barCell c) () 2 + ∑ q : Key, tallyAt (recvCell c q) () N

theorem due_sum (c : Dev nD) : ∀ l : List Key, due c l = (l.map fun q => tallyAt (recvCell (dest c q) q) () N).sum
  | [] => rfl
  | q :: l => by rw [due, List.map_cons, List.sum_cons, due_sum c l, add_comm]

theorem allKeys_nodup : allKeys.Nodup := by decide
theorem allKeys_univ : (Finset.univ : Finset Key) = allKeys.toFinset := by decide

theorem due_all (c : Dev nD) : due c allKeys = ∑ q : Key, tallyAt (recvCell (dest c q) q) () N := by
  rw [due_sum, allKeys_univ, List.sum_toFinset _ allKeys_nodup]

/-- What the devices owe in all is what their waits take in all. -/
theorem owed_taken : (∑ c, O₀ c) = ∑ c, takes c := by
  have hb : ∀ d : Bool, (∑ c : Dev nD, tallyAt (barCell (peer1 d c)) () 1) = (∑ c : Dev nD, tallyAt (barCell c) () 1 : CellTallies nD τ sig Unit) :=
    fun d => Equiv.sum_comp (acrossEquiv d) fun c : Dev nD => (tallyAt (barCell c) () 1 : CellTallies nD τ sig Unit)
  have hr : (∑ c : Dev nD, ∑ q : Key, tallyAt (recvCell (dest c q) q) () N) = (∑ c : Dev nD, ∑ q : Key, tallyAt (recvCell c q) () N : CellTallies nD τ sig Unit) := by
    rw [← Fintype.sum_prod_type', ← Fintype.sum_prod_type']
    exact Equiv.sum_comp destEquiv fun x : Dev nD × Key => (tallyAt (recvCell x.1 x.2) () N : CellTallies nD τ sig Unit)
  have h1 : ∀ c, O₀ c = (∑ q : Key, tallyAt (recvCell (dest c q) q) () N) + tallyAt (barCell (peer1 true c)) () 1 + tallyAt (barCell (peer1 false c)) () 1 :=
    fun c => by unfold O₀; rw [due_all]; rfl
  have h2 : ∀ c, takes c = tallyAt (barCell c) () 1 + tallyAt (barCell c) () 1 + ∑ q : Key, tallyAt (recvCell c q) () N :=
    fun c => by unfold takes; rw [tallyAt_add]
  simp only [h1, h2, Finset.sum_add_distrib]
  rw [hr, hb true, hb false, add_assoc, add_comm]

theorem takes_own (c : Dev nD) (g : GSem nD τ sig) (h : takes c g ≠ 0) : g.1 = (c.tc : Thread nD τ) := by
  by_contra hg
  refine h ?_
  unfold takes
  rw [Pi.add_apply, Finset.sum_apply, tallyAt_ne_cell (fun e => hg (congrArg Prod.fst e)),
    zero_add]
  exact Finset.sum_eq_zero fun q _ => tallyAt_ne_cell (fun e => hg (congrArg Prod.fst e)) _ _

/-- The credit for a device's waits. -/
theorem launch_credit (c : Dev nD) :
    (Pipeline.launchCred O₀ c : sProp 𝕄) = iprop(cred (tallyAt (barCell c) () 2) ∗ bigSep Finset.univ fun q : Key => cred (tallyAt (recvCell c q) () N)) := by
  have hs : ∀ S : Finset Key, (cred (∑ q ∈ S, tallyAt (recvCell c q) () N) : sProp 𝕄) = bigSep S fun q => cred (tallyAt (recvCell c q) () N) := by
    intro S
    induction S using Finset.induction_on with
    | empty => rw [Finset.sum_empty, BI.bigSep_empty]; exact cred_zero
    | insert q S hq ih =>
      rw [Finset.sum_insert hq, BI.bigSep_insert hq, ← ih]
      exact BI.Entails.antisymm (cred_add _ _).1 (cred_add _ _).2
  rw [Pipeline.launchCred_of_sum O₀ takes owed_taken takes_own c, ← hs]
  unfold takes
  exact BI.Entails.antisymm (cred_add _ _).1 (cred_add _ _).2

end Cert.AllReduce
end
-- ==== Proof.Run.lean ====
/-
# The run

The launch of the kernel on the four devices, and where it leaves their memories: for any float values, from any memory
with zero counters.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Around the body -/

/-- What a device has of the protocol before its body; -/
def start (c : Dev nD) : sProp 𝕄 := iprop(∃ K, records m ρ K ∗ opening c)
def Φ₀ (c : Dev nD) : sProp 𝕄 := iprop(start m ρ c ∗ landings c)
/-- and after: its cells at zero. -/
def Φ₁ (c : Dev nD) : sProp 𝕄 := iprop(landings c ∗ bigSep Finset.univ fun k : Ci => semVal (kcell (c, k)) 0)

/-- The staging pipeline's data: the input stays, the result is the total. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => total m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A landing buffer, whatever it holds, is its chunks, whatever they hold. -/
theorem landing_eq (c : Dev nD) (M : Memref sig .tc .vmem S512x1024 .bf16) :
    (iprop(∃ f, ownsTc c M fullShare f) : sProp 𝕄) = bigSep Finset.univ fun k : Fin 4 => iprop(∃ Y, ownsTc c (M.slice (lR k) (fun _ => rfl)) fullShare Y) := by
  refine BI.Entails.antisymm (show _ ⊢ (_ : sProp 𝕄) from ?_) (landing_join c M)
  iintro ⟨%f, H⟩
  iapply (landing_split c M f); iexact H

/-- A scratch buffer is owned as its points-to. -/
theorem scratch_owns (c : Dev nD) (b : Ref sig .tc) :
    (iprop(∃ f : Buf (Elt F) ((c : Thread nD τ).loc b), ((c : Thread nD τ).loc b) ↦{fullShare} f) : sProp 𝕄)
      = iprop(∃ f : b.ty.Contents (Elt F), ownsTc c (Memref.whole b) fullShare f) := by
  simp only [owns_whole]

/-- The kernel's scratch buffers are the landing buffers. -/
theorem scratch_landings (c : Dev nD) : (Pipeline.scopedRest cfg0.spec c : sProp 𝕄) = landings c := by
  rw [show (Pipeline.scopedRest cfg0.spec c : sProp 𝕄) = _ from scopedRest0_eq c]
  unfold landings
  have e0 : _ = bigSep Finset.univ fun k => iprop(∃ X, aOwn c false k X) := (scratch_owns c cc0_scratch0).trans (landing_eq (F := F) c (aM false))
  have e1 : _ = bigSep Finset.univ fun k => iprop(∃ X, aOwn c true k X) := (scratch_owns c cc0_scratch1).trans (landing_eq (F := F) c (aM true))
  have e2 : _ = bigSep Finset.univ fun k => iprop(∃ X, bOwn c false k X) := (scratch_owns c cc0_scratch2).trans (landing_eq (F := F) c (bM false))
  have e3 : _ = bigSep Finset.univ fun k => iprop(∃ X, bOwn c true k X) := (scratch_owns c cc0_scratch3).trans (landing_eq (F := F) c (bM true))
  rw [fam_bool, fam_bool, e0, e1, e2, e3]
  refine BI.Entails.antisymm (show _ ⊢ (_ : sProp 𝕄) from ?_) (show _ ⊢ (_ : sProp 𝕄) from ?_)
  · iintro ⟨H1, H2, H3, H4⟩
    isplitl [H1 H2]
    · isplitl [H2] <;> iassumption
    isplitl [H4] <;> iassumption
  · iintro ⟨⟨H2, H1⟩, H4, H3⟩
    isplitl [H1]; · iexact H1
    isplitl [H2]; · iexact H2
    isplitl [H3] <;> iassumption

/-! ## The body obligation -/

/-- The cells of a device that is done are closed. -/
theorem close_cells (K : Dev nD × Ci → ℕ) (c : Dev nD) :
    iprop(records m ρ K ∗ closing c) ⊢ |={Set.univ}=> (bigSep Finset.univ fun k : Ci => semVal (kcell (c, k)) 0 : sProp 𝕄) := by
  unfold closing
  refine (bigSep_using (R := records m ρ K) (Ψ := fun k : Ci => iprop(|={Set.univ}=> semVal (kcell (c, k)) 0)) fun k _ => ?_).trans (bigSep_fupd _ _)
  iintro ⟨#HR, Ha⟩
  iapply (Rounds.cell_close ER (sched m ρ) (κ := K (c, k)) (Set.mem_univ _) (fun h => h) (R := 1) (duties_later m ρ (kcell (c, k))))
  isplitr; · iapply (inv_of m ρ K (c, k)); iexact HR
  iexact Ha

theorem fetch_0 (t : Fin cfg0.N) : (cfg0.win (0 : Fin 2)).fetch t = true := fetch0_0 t

/-- A staging buffer at some contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The point of the grid. -/
abbrev pt : Fin cfg0.N := t0_0

def bodyPre (c : Dev nD) : sProp 𝕄 :=
  iprop(Φ₀ m ρ c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
def bodyPost (c : Dev nD) : sProp 𝕄 :=
  iprop(Φ₁ c ∗ (dats m ρ 0 c).owesAt () pt.succ ∗ stg c cc0_stg0_0 (xstg m ρ c) ∗ stg c cc0_stg1_0 (total m ρ c))

/-- The body's specification on one device, from the launch's assertions to the launch's. -/
theorem body_spec (c : Dev nD) : bodyPre m ρ c ⊢ wpc c theBody fun _ => bodyPost m ρ c := by
  unfold theBody wpc
  simp only [Prog.lift, Prog.bind_op, Prog.bind_ret, wp_deviceId]
  unfold bodyPre Φ₀ start Dat.owesAt Pipeline.owesWithin
  iintro ⟨⟨⟨%K, #HR, Hop⟩, HL⟩, ⟨%W, %hW, HO⟩, ⟨%d0, %g0, %hg0, Hx⟩, ⟨%d1, %g1, %hg1, Hout⟩⟩
  have hx : g0 = xstg m ρ c := by rw [hg0]; unfold Dat.before; rw [if_pos (fetch_0 pt)]; rfl
  subst hx
  rw [show (dats m ρ 0 c).owed pt.castSucc = O₀ c from rfl]
  ihave Hx := (Entails.of_eq (owns_whole (c : Thread nD τ) cc0_stg0_0 fullShare (xstg m ρ c)).symm) $$ Hx
  iapply (wpc_last_upd (bodyOn_spec m ρ K c W g1)) $$ [HO Hop HL Hx Hout]
  · isplitr; · iexact HR
    isplitl [HO]; · iexact HO
    isplitl [Hop]; · iexact Hop
    isplitl [HL]; · iexact HL
    isplitl [Hx] <;> iassumption
  iintro ⟨Hcl, HL, Hx, Hout, HO⟩
  imod (close_cells m ρ K c) $$ [Hcl] with Hz
  · isplitr; · iexact HR
    iexact Hcl
  imodintro
  ihave Hx := (Entails.of_eq (owns_whole (c : Thread nD τ) cc0_stg0_0 fullShare (xstg m ρ c))) $$ Hx
  unfold bodyPost Φ₁ Dat.owesAt Pipeline.owesWithin owing
  rw [show (dats m ρ 0 c).owed pt.succ = 0 from rfl]
  icases HO with ⟨%W', HO⟩
  isplitl [HL Hz]
  · isplitl [HL] <;> iassumption
  isplitl [HO]
  · iexists W'; isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
/-- The launch's obligation for the body. -/
theorem body_obligation (c : Dev nD) : BodyObligation (dats (F := F) m ρ 0 c) (defs₀ (F := F)) 𝒱₀ () Set.univ := fun t => by
  rw [show t = pt from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_stg]
  show bodyPre m ρ c ⊢ wpc c (cc0_body (F := F) xM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5) fun _ => bodyPost m ρ c
  rw [body_eq]
  exact body_spec m ρ c

/-! ## The launch -/

theorem share_eq (c : Dev nD) (w : Fin cfg0.W) : (dats m ρ 0 c).share w = fullShare := by unfold Dat.share; split <;> rfl

theorem O₀_pos {c : Dev nD} {g : GSem nD τ sig} {u : Unit} (h : 0 < O₀ c g u) : ∃ e : Dev nD, g = barCell e ∨ ∃ q, g = recvCell e q := by
  unfold O₀ at h
  rw [Pi.add_apply, Finsupp.add_apply, Pi.add_apply, Finsupp.add_apply, tallyAt_apply, tallyAt_apply] at h
  by_cases hX : g = barCell (devX c) ∧ u = ()
  · exact ⟨_, Or.inl hX.1⟩
  by_cases hY : g = barCell (devY c) ∧ u = ()
  · exact ⟨_, Or.inl hY.1⟩
  rw [if_neg hX, if_neg hY, Nat.add_zero] at h
  obtain ⟨q, -, e⟩ := due_pos h
  exact ⟨_, Or.inr ⟨q, e⟩⟩

/-- The staging pipeline's waits are below everything owed. -/
theorem mayWait_stage (c : Dev nD) (q : DmaSem sig) (hq : semLv (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨e, rfl | ⟨q, rfl⟩⟩ := O₀_pos hg <;> exact Finset.mem_singleton_self _)
      (fun p hp => by rw [Finset.mem_singleton.mp hp]; exact le_of_eq hq)
      (fun g u hg => by
        obtain ⟨e, rfl | ⟨q, rfl⟩⟩ := O₀_pos hg
        · exact Nat.one_pos
        · show 0 < semLv (.dma (rSem q)); rw [semLv_recv]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  rw [launch_credit]
  unfold start ready opened payer records opening
  iintro ⟨-, #Hlev, Hcr, -, ⟨%K, ⟨#HI, #HM⟩, Hat, Ht⟩⟩
  imodintro
  isplitl
  · iexists K
    isplitr
    · isplitr; · iexact HI
      isplitr; · iexact HM
      iexact Hlev
    isplitl [Hat]; · iexact Hat
    isplitl [Hcr] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_landings]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_landings]
  unfold Φ₁
  rw [← cells_zero]
  iintro ⟨HL, Ho, Hu⟩
  isplitl [Hu]; · iexact Hu
  isplitl [Ho] <;> iassumption

/-! ## The run -/

/-- An array's contents after the run. -/
def finalA (c : Dev nD) (w : Fin cfg0.W) : Buf (Elt F) ((cfg0.win w).arr.view.loc (c : Thread nD τ)) := (dats m ρ 0 c).arrAt w cfg0.N

/-- Every device's arrays are at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution of the four devices ends, and every final state has each
device's arrays at the contents above and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's argument is after the run what it was before. -/
theorem arg_kept (c : Dev nD) : finalA m ρ c 0 = m ((c : Thread nD τ).loc main_arg0) :=
  Pipeline.Dat.arrAt_in (dats m ρ 0 c) 0 rfl cfg0.N

end Cert.AllReduce
end
-- ==== Proof.Value.lean ====
/-
# The value

At the extended reals the result on every device is, at each index, the sum of the four devices' inputs there, and so
is the reference's: addition there is commutative and associative, so the order in which the exchanges add does not
matter.
-/
module

public import proofs.«01_k».proof.Proof.Run
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.PureOps.Ideal.Laws

@[expose] public section

noncomputable section

namespace Cert.AllReduce

open Cert.KernelIdeal Cert.KernelIdeal.Gen

open Idealize.ShloMosaic hiding ix4
open Idealize.ShloMosaic.TcCoe
open Idealize.ShloMosaic.ValueIdx
open Idealize.SL.Sem

section Arrays

variable {F : FTy → Type} [FloatOps F]
variable (m : (ℓ : Loc nD τ sig) → Buf (Elt F) ℓ) (ρ : Dev nD → PrngReg)

/-- The staged input is the device's whole argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The result's array after the run is the total. -/
theorem result_total (c : Dev nD) : finalA m ρ c (1 : Fin 2) = total m ρ c := by
  have hw : (win0_1.blk (0 : Fin 1)).view.read (Elt F) (finalA m ρ c (1 : Fin 2)) = total m ρ c :=
    Pipeline.Dat.read_blk_arrAt_eq_flushed (dat := dats m ρ 0 c) (1 : Fin 2)
      (fun t t' _ _ hne => absurd (Subsingleton.elim (α := Fin 1) t t') hne) cfg0.N (0 : Fin 1) (by decide) (flush0_1 _)
  exact (Memref.read_access_unit_zero (Elt F) main_v1 (funext fun a => by fin_cases a <;> decide) (fun a => by fin_cases a <;> decide) _).symm.trans hw

end Arrays

section Sums

variable (m : (ℓ : Loc nD τ sig) → Buf (Elt Ideal) ℓ) (ρ : Dev nD → PrngReg)

/-- A device, its two partners and its partner's partner are the four devices. -/
theorem four_devices : ∀ (s : Bool) (c : Dev nD),
    List.Perm [c, peer1 s c, peer2 s c, peer1 s (peer2 s c)] [(0 : Dev nD), 1, 2, 3] := by decide

/-- The sum of four terms, one for each device. -/
theorem sum_devices {M : Type} [AddCommMonoid M] (f : Dev nD → M) (s : Bool) (c : Dev nD) :
    (f c + f (peer1 s c)) + (f (peer2 s c) + f (peer1 s (peer2 s c))) = (f 0 + f 1) + (f 2 + f 3) := by
  have h := ((four_devices s c).map f).sum_eq
  simpa only [List.map_cons, List.map_nil, List.sum_cons, List.sum_nil, add_zero, add_assoc] using h

/-- Each device's total is the sum of the four inputs. -/
theorem total_eq (c : Dev nD) (i : S2048x1024.Idx) :
    total m ρ c i = (show EReal from xo m ρ 0 i + xo m ρ 1 i) + (xo m ρ 2 i + xo m ρ 3 i : EReal) :=
  sum_devices (M := EReal) (fun d => xo m ρ d i) (half i) _

end Sums

/-! ## The reference's sum -/

section Reference

variable {n0 n1 n2 n3 : Nat}

/-- Dropping the two leading axes of a rank-four index leaves `j` exactly when the index is `j` behind two leading coordinates. -/
theorem drop_leading (h : (⟨4, ![n0, n1, n2, n3]⟩ : Shape).ReducesTo [0, 1] ⟨2, ![n2, n3]⟩) (j : (⟨2, ![n2, n3]⟩ : Shape).Idx)
    (i : (⟨4, ![n0, n1, n2, n3]⟩ : Shape).Idx) : h.drop i = j ↔ ∃ k : Fin n0 × Fin n1, ix4 k.1 k.2 (j 0) (j 1) = i := by
  constructor
  · rintro rfl
    exact ⟨(i 0, i 1), funext fun a => by fin_cases a <;> rfl⟩
  · rintro ⟨k, rfl⟩
    exact funext fun a => by fin_cases a <;> rfl

/-- The host's float sum over the two leading axes. -/
theorem hostSum_leading (h : (⟨4, ![n0, n1, n2, n3]⟩ : Shape).ReducesTo [0, 1] ⟨2, ![n2, n3]⟩)
    (v : (⟨4, ![n0, n1, n2, n3]⟩ : Shape).Idx → EReal) (z : EReal) (j : (⟨2, ![n2, n3]⟩ : Shape).Idx) :
    Ideal.hostReduceAdd h v z j = z + ∑ k : Fin n0 × Fin n1, v (ix4 k.1 k.2 (j 0) (j 1)) :=
  congrArg (z + ·) (Finset.sum_filter_eq_sum_of_fiber (fun i => h.drop i = j) (fun k : Fin n0 × Fin n1 => ix4 k.1 k.2 (j 0) (j 1))
    (fun _ _ e => Prod.ext (congrFun e 0) (congrFun e 1)) (drop_leading h j) v)

end Reference

/-- The reference's result of a whole argument. -/
def refOut (X : (⟨4, ![2, 2, 2048, 1024]⟩ : Shape).Idx → Ideal .bf16) : S2048x1024.Idx → Ideal .bf16 :=
  truncf .bf16 (Host.reduceAdd (extf .f32 X Cert.ReferenceIdeal.Gen.facts.bitsLt_bf16_f32)
    (constant Cert.ReferenceIdeal.S_ .f32 0x00000000#32) Cert.ReferenceIdeal.Gen.facts.reducesTo_S2x2x2048x1024_S2048x1024_d0_1
    Cert.ReferenceIdeal.Gen.facts.h_S_) Cert.ReferenceIdeal.Gen.facts.bitsLt_bf16_f32

/-- It is the sum of the argument's four blocks. -/
theorem refOut_apply (X : (⟨4, ![2, 2, 2048, 1024]⟩ : Shape).Idx → Ideal .bf16) (i : S2048x1024.Idx) :
    refOut X i = (show EReal from X (ix4 0 0 (i 0) (i 1)) + X (ix4 0 1 (i 0) (i 1)))
      + (X (ix4 1 0 (i 0) (i 1)) + X (ix4 1 1 (i 0) (i 1)) : EReal) := by
  have h : refOut X i = Ideal.hostReduceAdd Cert.ReferenceIdeal.Gen.facts.reducesTo_S2x2x2048x1024_S2048x1024_d0_1 X
    (Ideal.ofBits .f32 0x00000000#32) i := rfl
  rw [h, hostSum_leading, Ideal.ofBits_zero_f32, zero_add, Fintype.sum_prod_type, Fin.sum_univ_two, Fin.sum_univ_two, Fin.sum_univ_two]

/-- The whole array's index under a device's block. -/
theorem block_idx (c : Dev nD) (a b : Fin 2) (ha : c.val / 2 = a.val) (hb : c.val % 2 = b.val) (r : Fin 2048) (l : Fin 1024)
    (X : (⟨4, ![2, 2, 2048, 1024]⟩ : Shape).Idx → Ideal .bf16) :
    (Layout.blockN ⟨4, ![1, 1, 2048, 1024]⟩ ⟨4, ![2, 2, 2048, 1024]⟩ (Layout.meshBlock [2, 2] ![[0], [1], [], []] c) X) (ix4 0 0 r l)
      = X (ix4 a b r l) := by
  refine congrArg X (funext fun d => Fin.ext ?_)
  have hc : c.val < 4 := c.isLt
  rw [Layout.TilesN.idx_val]
  match d with
  | ⟨0, _⟩ => show (c.val / 2 % 2 * 1 + 0) * 1 + 0 = a.val; omega
  | ⟨1, _⟩ => show (c.val / 1 % 2 * 1 + 0) * 1 + 0 = b.val; omega
  | ⟨2, _⟩ => show 0 * 2048 + r.val = r.val; omega
  | ⟨3, _⟩ => show 0 * 1024 + l.val = l.val; omega

/-- Where each device holds its block of one whole argument, every device's total is the reference's result. -/
theorem total_refOut (m : (ℓ : Loc nD τ sig) → Buf (Elt Ideal) ℓ) (ρ : Dev nD → PrngReg)
    (X : (⟨4, ![2, 2, 2048, 1024]⟩ : Shape).Idx → Ideal .bf16)
    (hX : ∀ c : Dev nD, m ((c : Thread nD τ).loc main_arg0)
      = Layout.blockN ⟨4, ![1, 1, 2048, 1024]⟩ ⟨4, ![2, 2, 2048, 1024]⟩ (Layout.meshBlock [2, 2] ![[0], [1], [], []] c) X)
    (c : Dev nD) : total m ρ c = refOut X := by
  have hx : ∀ (d : Dev nD) (a b : Fin 2) (ha : d.val / 2 = a.val) (hb : d.val % 2 = b.val) (i : S2048x1024.Idx),
      xo m ρ d i = X (ix4 a b (i 0) (i 1)) := fun d a b ha hb i =>
    (congrFun ((xstg_eq m ρ d).trans (hX d)) _).trans (block_idx d a b ha hb (i 0) (i 1) X)
  funext i
  rw [total_eq, refOut_apply, hx 0 0 0 rfl rfl, hx 1 0 1 rfl rfl, hx 2 1 0 rfl rfl, hx 3 1 1 rfl rfl]

end Cert.AllReduce
end
-- ==== Proof.lean ====
/-
# The certificate

The all-reduce kernel runs on the four devices, leaves its argument and every counter as it found them, and at the
extended reals leaves on every device the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The two programs have the same bodies, label by label. -/
theorem bodies_same : Cert.Kernel.defs₀ (F := Bits) = Cert.KernelIdeal.defs₀ (F := Bits) := by
  funext p
  cases p
  case tc => funext l x; fin_cases l; obtain ⟨t, s⟩ := x; rfl
  all_goals rfl

/-- So they have the same tables. -/
theorem tables_same : Cert.Kernel.defs (F := Bits) = Cert.KernelIdeal.defs (F := Bits) :=
  congrArg (Pipeline.defs Cert.KernelIdeal.pcfgs) bodies_same

/-- The kernel, at the words of its formats, runs, keeps its argument and ends with every counter at zero: its text is the
one whose run is proved for any float values. -/
theorem frame_kernel : Cert.quiescent_Kernel := fun m ρ _ =>
  have h : θ_run Cert.KernelIdeal.defs (onTc (τ := Cert.KernelIdeal.τ) (Cert.KernelIdeal.main (F := Bits))) ⟨m, fun _ => 0, ρ⟩
      (fun r => (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
    (θ_run Cert.KernelIdeal.defs _ _).mono
      (fun _ h => ⟨fun c => (h.1 c (0 : Fin 2)).trans (AllReduce.arg_kept m ρ c), h.2⟩) (AllReduce.run_main (F := Bits) m ρ)
  cast (congrArg (fun D => θ_run D (onTc (τ := Cert.KernelIdeal.τ) (Cert.KernelIdeal.main (F := Bits))) ⟨m, fun _ => 0, ρ⟩ _) tables_same.symm) h

/-- The same at the extended reals. -/
theorem frame_kernelIdeal : Cert.quiescent_KernelIdeal := fun m ρ _ =>
  (θ_run Cert.KernelIdeal.defs _ _).mono
    (fun _ h => ⟨fun c => (h.1 c (0 : Fin 2)).trans (AllReduce.arg_kept m ρ c), h.2⟩) (AllReduce.run_main (F := Ideal) m ρ)

/-- The reference runs and keeps its argument; it has no counter that could end at anything but zero. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- At the extended reals every device's result is the reference's. -/
theorem algebraic : Cert.algebraic_KernelIdeal_ReferenceIdeal := fun m ρ m' ρ' _ hX =>
  ⟨AllReduce.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c (1 : Fin 2)).trans ((AllReduce.result_total m ρ c).trans (AllReduce.total_refOut m ρ _ hX c)),
        (h.1 c (0 : Fin 2)).trans (AllReduce.arg_kept m ρ c)⟩)
      (AllReduce.run_main (F := Ideal) m ρ),
    (θ_run Cert.ReferenceIdeal.defs _ _).mono (fun _ h => h 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
